-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_nearest [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.1 = (fun _ => 1#1)
    ∧ (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.1 = (fun _ => 1#1)
    ∧ (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_nearest [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_nearest [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_nearest : Cert.Pre_one_nearest.Facts),
    quiescent_Kernel (hKernel := hKernel)
    ∧ quiescent_KernelIdeal (hKernelIdeal := hKernelIdeal)
    ∧ quiescent_KernelIdeal_pre_one_nearest (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ preserves_Kernel_KernelIdeal
    ∧ algebraic_KernelIdeal_ReferenceIdeal_pre_one_nearest (hKernelIdeal := hKernelIdeal) (hReferenceIdeal := hReferenceIdeal) (hPre_one_nearest := hPre_one_nearest)
-- ==== Pre_one_nearest.lean ====
abbrev S16x1500x128 : Shape := ⟨3, ![16, 1500, 128]⟩
abbrev S8x1024x128 : Shape := ⟨3, ![8, 1024, 128]⟩
abbrev S1x1024x128 : Shape := ⟨3, ![1, 1024, 128]⟩
abbrev S1024x128 : Shape := ⟨2, ![1024, 128]⟩
abbrev S_ : Shape := ⟨0, ![]⟩
abbrev S16x1500 : Shape := ⟨2, ![16, 1500]⟩
abbrev S16x1500x1 : Shape := ⟨3, ![16, 1500, 1]⟩
abbrev S128x1024 : Shape := ⟨2, ![128, 1024]⟩
abbrev S16x1500x1024 : Shape := ⟨3, ![16, 1500, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

class Facts : Prop where
  slices_S8x1024x128_S1x1024x128_0_0_0 : S8x1024x128.Slices ![0, 0, 0] S1x1024x128
  shapeCasts_S1x1024x128_S1024x128 : S1x1024x128.ShapeCasts S1024x128
  reducesTo_S16x1500x128_S16x1500_d2 : S16x1500x128.ReducesTo [2] S16x1500
  h_S_ : 0 < S_.numel
  bcast_S16x1500_S16x1500x1_0_1 : S16x1500.BroadcastsInDim S16x1500x1 (![0, 1] : Fin 2 → Fin S16x1500x1.rank)
  transposes_S1024x128_S128x1024_1_0 : S1024x128.Transposes [1, 0] S128x1024
  reducesTo_S1024x128_S1024_d1 : S1024x128.ReducesTo [1] S1024
  bcast_S1024_S1x1x1024_2 : S1024.BroadcastsInDim S1x1x1024 (![2] : Fin 1 → Fin S1x1x1024.rank)
  bcast_S_S16x1500x1024 : S_.BroadcastsInDim S16x1500x1024 (![] : Fin 0 → Fin S16x1500x1024.rank)
  bcast_S16x1500x1_S16x1500x1024_0_1_2 : S16x1500x1.BroadcastsInDim S16x1500x1024 (![0, 1, 2] : Fin 3 → Fin S16x1500x1024.rank)
  bcast_S1x1x1024_S16x1500x1024_0_1_2 : S1x1x1024.BroadcastsInDim S16x1500x1024 (![0, 1, 2] : Fin 3 → Fin S16x1500x1024.rank)
  reducesTo_S16x1500x1024_S16x1500_d2 : S16x1500x1024.ReducesTo [2] S16x1500
  bcast_S_S16x1500 : S_.BroadcastsInDim S16x1500 (![] : Fin 0 → Fin S16x1500.rank)
  bcast_S_S16x1500x1 : S_.BroadcastsInDim S16x1500x1 (![] : Fin 0 → Fin S16x1500x1.rank)
  bcast_S1_S1x1x1_2 : S1.BroadcastsInDim S1x1x1 (![2] : Fin 1 → Fin S1x1x1.rank)
  bcast_S1x1x1_S16x1500x1_0_1_2 : S1x1x1.BroadcastsInDim S16x1500x1 (![0, 1, 2] : Fin 3 → Fin S16x1500x1.rank)
  reducesTo_S16x1500x1_S16x1500_d2 : S16x1500x1.ReducesTo [2] S16x1500
  bcast_S16x1500_S16x1500x128_0_1 : S16x1500.BroadcastsInDim S16x1500x128 (![0, 1] : Fin 2 → Fin S16x1500x128.rank)
  bcast_S_S16x1500x128 : S_.BroadcastsInDim S16x1500x128 (![] : Fin 0 → Fin S16x1500x128.rank)
  slices_S8x1024x128_S1x1024x128_1_0_0 : S8x1024x128.Slices ![1, 0, 0] S1x1024x128
  slices_S8x1024x128_S1x1024x128_2_0_0 : S8x1024x128.Slices ![2, 0, 0] S1x1024x128
  slices_S8x1024x128_S1x1024x128_3_0_0 : S8x1024x128.Slices ![3, 0, 0] S1x1024x128
  slices_S8x1024x128_S1x1024x128_4_0_0 : S8x1024x128.Slices ![4, 0, 0] S1x1024x128
  slices_S8x1024x128_S1x1024x128_5_0_0 : S8x1024x128.Slices ![5, 0, 0] S1x1024x128
  slices_S8x1024x128_S1x1024x128_6_0_0 : S8x1024x128.Slices ![6, 0, 0] S1x1024x128
  slices_S8x1024x128_S1x1024x128_7_0_0 : S8x1024x128.Slices ![7, 0, 0] S1x1024x128
  bcast_S_S8x1024x128 : S_.BroadcastsInDim S8x1024x128 (![] : Fin 0 → Fin S8x1024x128.rank)
  dot_S16x1500x128_S128x1024_S16x1500x1024_2_0_01_1_n_n_wf : DotDims.WF S16x1500x128 S128x1024 S16x1500x1024 [2] [0] [0, 1] [1] [] []
  gather_S1024x128_S16x1500x1_S16x1500x128_2_0_n_n_0_2_1128_wf : GatherDims.WF S1024x128 S16x1500x1 S16x1500x128 [2] [0] [] [0] [] 2 ![1, 128]

variable [Facts]

variable {F : FTy → Type} [FloatOps F]
def dot_S16x1500x128_S128x1024_S16x1500x1024_2_0_01_1_n_n : DotDims S16x1500x128 S128x1024 S16x1500x1024 where
  lhsContracting := [2]
  rhsContracting := [0]
  lhsNonContracting := [0, 1]
  rhsNonContracting := [1]
  lhsBatch := []
  rhsBatch := []
  wf := dot_S16x1500x128_S128x1024_S16x1500x1024_2_0_01_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x128_S16x1500x1_S16x1500x128_2_0_n_n_0_2_1128 : GatherDims S1024x128 S16x1500x1 S16x1500x128 where
  offsetDims := [2]
  collapsedSliceDims := [0]
  operandBatchingDims := []
  startIndicesBatchingDims := []
  startIndexMap := [0]
  indexVectorDim := 2
  sliceSizes := ![1, 128]
  wf := gather_S1024x128_S16x1500x1_S16x1500x128_2_0_n_n_0_2_1128_wf

def fn_argmax {F : FTy → Type} [FloatOps F] (arg0 : FVec F S16x1500x1024 .f32) : IVec S16x1500 32 :=
  let v0 : IVec S16x1500x1024 32 := iotaInDim S16x1500x1024 32 2
  let cst : FVec F S_ .f32 := constant S_ .f32 0xFF800000#32
  let c : IVec S_ 32 := constantI S_ 32 0#32
  let v1_0 : FVec F S16x1500 .f32 := (fun x y u v j => (Host.argReduce reducer_argmax_f32_i32 x y u v reducesTo_S16x1500x1024_S16x1500_d2 h_S_ j).1) arg0 v0 cst c
  let v1_1 : IVec S16x1500 32 := (fun x y u v j => (Host.argReduce reducer_argmax_f32_i32 x y u v reducesTo_S16x1500x1024_S16x1500_d2 h_S_ j).2) arg0 v0 cst c
  v1_1

def fn_where {F : FTy → Type} [FloatOps F] (arg0 : IVec S16x1500 1) (arg1 : IVec S16x1500 32) (arg2 : IVec S16x1500 32) : IVec S16x1500 32 :=
  let v0 : IVec S16x1500 32 := select arg0 arg1 arg2
  v0

def fn_take {F : FTy → Type} [FloatOps F] (arg0 : FVec F S1024x128 .f32) (arg1 : IVec S16x1500 32) : FVec F S16x1500x128 .f32 :=
  let c : IVec S_ 32 := constantI S_ 32 0#32
  let v0 : IVec S16x1500 32 := broadcastInDim S16x1500 ![] bcast_S_S16x1500 c
  let v1 : IVec S16x1500 1 := cmpi .slt arg1 v0
  let c_0 : IVec S_ 32 := constantI S_ 32 1024#32
  let v2 : IVec S16x1500 32 := broadcastInDim S16x1500 ![] bcast_S_S16x1500 c_0
  let v3 : IVec S16x1500 32 := addi arg1 v2
  let v4 : IVec S16x1500 32 := fn_where (F := F) v1 v3 arg1
  let v5 : IVec S16x1500x1 32 := broadcastInDim S16x1500x1 ![0, 1] bcast_S16x1500_S16x1500x1_0_1 v4
  let c_1 : IVec S1 32 := constantI S1 32 1023#32
  let c_2 : IVec S_ 32 := constantI S_ 32 0#32
  let v6 : IVec S16x1500x1 32 := broadcastInDim S16x1500x1 ![] bcast_S_S16x1500x1 c_2
  let v7 : IVec S16x1500x1 1 := cmpi .sge v5 v6
  let v8 : IVec S1x1x1 32 := broadcastInDim S1x1x1 ![2] bcast_S1_S1x1x1_2 c_1
  let v9 : IVec S16x1500x1 32 := broadcastInDim S16x1500x1 ![0, 1, 2] bcast_S1x1x1_S16x1500x1_0_1_2 v8
  let v10 : IVec S16x1500x1 1 := cmpi .sle v5 v9
  let v11 : IVec S16x1500x1 1 := andi v7 v10
  let c_3 : IVec S_ 1 := constantI S_ 1 1#1
  let v12 : IVec S16x1500 1 := (fun x v => Host.reduce IntOp.andi x v reducesTo_S16x1500x1_S16x1500_d2 h_S_) v11 c_3
  let v13 : FVec F S16x1500x128 .f32 := (fun x i => Host.gather gather_S1024x128_S16x1500x1_S16x1500x128_2_0_n_n_0_2_1128 x i) arg0 v5
  let v14 : IVec S16x1500x128 1 := broadcastInDim S16x1500x128 ![0, 1] bcast_S16x1500_S16x1500x128_0_1 v12
  let cst : FVec F S_ .f32 := constant S_ .f32 0x7FC00000#32
  let v15 : FVec F S16x1500x128 .f32 := broadcastInDim S16x1500x128 ![] bcast_S_S16x1500x128 cst
  let v16 : FVec F S16x1500x128 .f32 := select v14 v13 v15
  v16

def fn_one_nearest_at_part2 {F : FTy → Type} [FloatOps F] (v32 : FVec F S16x1500x128 .f32) (v37 : IVec S16x1500x1024 1) (v40 : IVec S16x1500x1024 1) : FVec F S16x1500x128 .f32 × IVec S16x1500x1024 1 :=
  let v41 : IVec S16x1500x1024 1 := ori v37 v40
  (v32, v41)

def fn_one_nearest_at_part1 {F : FTy → Type} [FloatOps F] (arg0 : FVec F S16x1500x128 .f32) (arg1 : FVec F S1024x128 .f32) (v14 : FVec F S16x1500x1024 .f32) (v17 : FVec F S16x1500x1 .f32) (v19 : FVec F S16x1500x1024 .f32) : FVec F S16x1500x128 .f32 × IVec S16x1500x1024 1 :=
  let v20 : FVec F S1024x128 .f32 := mulf arg1 arg1
  let cst_3 : FVec F S_ .f32 := constant S_ .f32 0x00000000#32
  let v21 : FVec F S1024 .f32 := (fun x v => Host.reduceAdd x v reducesTo_S1024x128_S1024_d1 h_S_) v20 cst_3
  let v22 : FVec F S1x1x1024 .f32 := broadcastInDim S1x1x1024 ![2] bcast_S1024_S1x1x1024_2 v21
  let cst_4 : FVec F S_ .f32 := constant S_ .f32 0x40000000#32
  let v23 : FVec F S16x1500x1024 .f32 := broadcastInDim S16x1500x1024 ![] bcast_S_S16x1500x1024 cst_4
  let v24 : FVec F S16x1500x1024 .f32 := mulf v23 v19
  let v25 : FVec F S16x1500x1024 .f32 := broadcastInDim S16x1500x1024 ![0, 1, 2] bcast_S16x1500x1_S16x1500x1024_0_1_2 v17
  let v26 : FVec F S16x1500x1024 .f32 := subf v25 v24
  let v27 : FVec F S16x1500x1024 .f32 := broadcastInDim S16x1500x1024 ![0, 1, 2] bcast_S1x1x1024_S16x1500x1024_0_1_2 v22
  let v28 : FVec F S16x1500x1024 .f32 := addf v26 v27
  let v29 : FVec F S16x1500x1024 .f32 := Host.negf v28
  let v30 : IVec S16x1500 32 := fn_argmax (F := F) v29
  let v31 : FVec F S16x1500x128 .f32 := fn_take (F := F) arg1 v30
  let v32 : FVec F S16x1500x128 .f32 := subf arg0 v31
  let v33 : IVec S16x1500x1024 32 := iotaInDim S16x1500x1024 32 2
  let cst_5 : FVec F S_ .f32 := constant S_ .f32 0xFF800000#32
  let v34 : FVec F S16x1500 .f32 := (fun x v => Host.reduce FloatOps.maximumf x v reducesTo_S16x1500x1024_S16x1500_d2 h_S_) v14 cst_5
  let v35 : FVec F S16x1500x1 .f32 := broadcastInDim S16x1500x1 ![0, 1] bcast_S16x1500_S16x1500x1_0_1 v34
  let v36 : FVec F S16x1500x1024 .f32 := broadcastInDim S16x1500x1024 ![0, 1, 2] bcast_S16x1500x1_S16x1500x1024_0_1_2 v35
  let v37 : IVec S16x1500x1024 1 := cmpf .olt v14 v36
  let v38 : IVec S16x1500x1 32 := broadcastInDim S16x1500x1 ![0, 1] bcast_S16x1500_S16x1500x1_0_1 v30
  let v39 : IVec S16x1500x1024 32 := broadcastInDim S16x1500x1024 ![0, 1, 2] bcast_S16x1500x1_S16x1500x1024_0_1_2 v38
  let v40 : IVec S16x1500x1024 1 := cmpi .eq v33 v39
  fn_one_nearest_at_part2 (F := F) v32 v37 v40

def fn_one_nearest_at {F : FTy → Type} [FloatOps F] (arg0 : FVec F S16x1500x128 .f32) (arg1 : FVec F S1024x128 .f32) : FVec F S16x1500x128 .f32 × IVec S16x1500x1024 1 :=
  let v0 : FVec F S16x1500x128 .f32 := mulf arg0 arg0
  let cst : FVec F S_ .f32 := constant S_ .f32 0x00000000#32
  let v1 : FVec F S16x1500 .f32 := (fun x v => Host.reduceAdd x v reducesTo_S16x1500x128_S16x1500_d2 h_S_) v0 cst
  let v2 : FVec F S16x1500x1 .f32 := broadcastInDim S16x1500x1 ![0, 1] bcast_S16x1500_S16x1500x1_0_1 v1
  let v3 : FVec F S128x1024 .f32 := (transpose S128x1024 [1, 0] · transposes_S1024x128_S128x1024_1_0) arg1
  let v4 : FVec F S16x1500x1024 .f32 := (fun l r => Host.dotGeneral dot_S16x1500x128_S128x1024_S16x1500x1024_2_0_01_1_n_n none l r) arg0 v3
  let v5 : FVec F S1024x128 .f32 := mulf arg1 arg1
  let cst_0 : FVec F S_ .f32 := constant S_ .f32 0x00000000#32
  let v6 : FVec F S1024 .f32 := (fun x v => Host.reduceAdd x v reducesTo_S1024x128_S1024_d1 h_S_) v5 cst_0
  let v7 : FVec F S1x1x1024 .f32 := broadcastInDim S1x1x1024 ![2] bcast_S1024_S1x1x1024_2 v6
  let cst_1 : FVec F S_ .f32 := constant S_ .f32 0x40000000#32
  let v8 : FVec F S16x1500x1024 .f32 := broadcastInDim S16x1500x1024 ![] bcast_S_S16x1500x1024 cst_1
  let v9 : FVec F S16x1500x1024 .f32 := mulf v8 v4
  let v10 : FVec F S16x1500x1024 .f32 := broadcastInDim S16x1500x1024 ![0, 1, 2] bcast_S16x1500x1_S16x1500x1024_0_1_2 v2
  let v11 : FVec F S16x1500x1024 .f32 := subf v10 v9
  let v12 : FVec F S16x1500x1024 .f32 := broadcastInDim S16x1500x1024 ![0, 1, 2] bcast_S1x1x1024_S16x1500x1024_0_1_2 v7
  let v13 : FVec F S16x1500x1024 .f32 := addf v11 v12
  let v14 : FVec F S16x1500x1024 .f32 := Host.negf v13
  let v15 : FVec F S16x1500x128 .f32 := mulf arg0 arg0
  let cst_2 : FVec F S_ .f32 := constant S_ .f32 0x00000000#32
  let v16 : FVec F S16x1500 .f32 := (fun x v => Host.reduceAdd x v reducesTo_S16x1500x128_S16x1500_d2 h_S_) v15 cst_2
  let v17 : FVec F S16x1500x1 .f32 := broadcastInDim S16x1500x1 ![0, 1] bcast_S16x1500_S16x1500x1_0_1 v16
  let v18 : FVec F S128x1024 .f32 := (transpose S128x1024 [1, 0] · transposes_S1024x128_S128x1024_1_0) arg1
  let v19 : FVec F S16x1500x1024 .f32 := (fun l r => Host.dotGeneral dot_S16x1500x128_S128x1024_S16x1500x1024_2_0_01_1_n_n none l r) arg0 v18
  fn_one_nearest_at_part1 (F := F) arg0 arg1 v14 v17 v19

def fn_one_nearest_at_0_part2 {F : FTy → Type} [FloatOps F] (v32 : FVec F S16x1500x128 .f32) (v37 : IVec S16x1500x1024 1) (v40 : IVec S16x1500x1024 1) : FVec F S16x1500x128 .f32 × IVec S16x1500x1024 1 :=
  let v41 : IVec S16x1500x1024 1 := ori v37 v40
  (v32, v41)

def fn_one_nearest_at_0_part1 {F : FTy → Type} [FloatOps F] (arg0 : FVec F S16x1500x128 .f32) (arg1 : FVec F S1024x128 .f32) (v14 : FVec F S16x1500x1024 .f32) (v17 : FVec F S16x1500x1 .f32) (v19 : FVec F S16x1500x1024 .f32) : FVec F S16x1500x128 .f32 × IVec S16x1500x1024 1 :=
  let v20 : FVec F S1024x128 .f32 := mulf arg1 arg1
  let cst_3 : FVec F S_ .f32 := constant S_ .f32 0x00000000#32
  let v21 : FVec F S1024 .f32 := (fun x v => Host.reduceAdd x v reducesTo_S1024x128_S1024_d1 h_S_) v20 cst_3
  let v22 : FVec F S1x1x1024 .f32 := broadcastInDim S1x1x1024 ![2] bcast_S1024_S1x1x1024_2 v21
  let cst_4 : FVec F S_ .f32 := constant S_ .f32 0x40000000#32
  let v23 : FVec F S16x1500x1024 .f32 := broadcastInDim S16x1500x1024 ![] bcast_S_S16x1500x1024 cst_4
  let v24 : FVec F S16x1500x1024 .f32 := mulf v23 v19
  let v25 : FVec F S16x1500x1024 .f32 := broadcastInDim S16x1500x1024 ![0, 1, 2] bcast_S16x1500x1_S16x1500x1024_0_1_2 v17
  let v26 : FVec F S16x1500x1024 .f32 := subf v25 v24
  let v27 : FVec F S16x1500x1024 .f32 := broadcastInDim S16x1500x1024 ![0, 1, 2] bcast_S1x1x1024_S16x1500x1024_0_1_2 v22
  let v28 : FVec F S16x1500x1024 .f32 := addf v26 v27
  let v29 : FVec F S16x1500x1024 .f32 := Host.negf v28
  let v30 : IVec S16x1500 32 := fn_argmax (F := F) v29
  let v31 : FVec F S16x1500x128 .f32 := fn_take (F := F) arg1 v30
  let v32 : FVec F S16x1500x128 .f32 := subf arg0 v31
  let v33 : IVec S16x1500x1024 32 := iotaInDim S16x1500x1024 32 2
  let cst_5 : FVec F S_ .f32 := constant S_ .f32 0xFF800000#32
  let v34 : FVec F S16x1500 .f32 := (fun x v => Host.reduce FloatOps.maximumf x v reducesTo_S16x1500x1024_S16x1500_d2 h_S_) v14 cst_5
  let v35 : FVec F S16x1500x1 .f32 := broadcastInDim S16x1500x1 ![0, 1] bcast_S16x1500_S16x1500x1_0_1 v34
  let v36 : FVec F S16x1500x1024 .f32 := broadcastInDim S16x1500x1024 ![0, 1, 2] bcast_S16x1500x1_S16x1500x1024_0_1_2 v35
  let v37 : IVec S16x1500x1024 1 := cmpf .olt v14 v36
  let v38 : IVec S16x1500x1 32 := broadcastInDim S16x1500x1 ![0, 1] bcast_S16x1500_S16x1500x1_0_1 v30
  let v39 : IVec S16x1500x1024 32 := broadcastInDim S16x1500x1024 ![0, 1, 2] bcast_S16x1500x1_S16x1500x1024_0_1_2 v38
  let v40 : IVec S16x1500x1024 1 := cmpi .eq v33 v39
  fn_one_nearest_at_0_part2 (F := F) v32 v37 v40

def fn_one_nearest_at_0 {F : FTy → Type} [FloatOps F] (arg0 : FVec F S16x1500x128 .f32) (arg1 : FVec F S1024x128 .f32) : FVec F S16x1500x128 .f32 × IVec S16x1500x1024 1 :=
  let v0 : FVec F S16x1500x128 .f32 := mulf arg0 arg0
  let cst : FVec F S_ .f32 := constant S_ .f32 0x00000000#32
  let v1 : FVec F S16x1500 .f32 := (fun x v => Host.reduceAdd x v reducesTo_S16x1500x128_S16x1500_d2 h_S_) v0 cst
  let v2 : FVec F S16x1500x1 .f32 := broadcastInDim S16x1500x1 ![0, 1] bcast_S16x1500_S16x1500x1_0_1 v1
  let v3 : FVec F S128x1024 .f32 := (transpose S128x1024 [1, 0] · transposes_S1024x128_S128x1024_1_0) arg1
  let v4 : FVec F S16x1500x1024 .f32 := (fun l r => Host.dotGeneral dot_S16x1500x128_S128x1024_S16x1500x1024_2_0_01_1_n_n none l r) arg0 v3
  let v5 : FVec F S1024x128 .f32 := mulf arg1 arg1
  let cst_0 : FVec F S_ .f32 := constant S_ .f32 0x00000000#32
  let v6 : FVec F S1024 .f32 := (fun x v => Host.reduceAdd x v reducesTo_S1024x128_S1024_d1 h_S_) v5 cst_0
  let v7 : FVec F S1x1x1024 .f32 := broadcastInDim S1x1x1024 ![2] bcast_S1024_S1x1x1024_2 v6
  let cst_1 : FVec F S_ .f32 := constant S_ .f32 0x40000000#32
  let v8 : FVec F S16x1500x1024 .f32 := broadcastInDim S16x1500x1024 ![] bcast_S_S16x1500x1024 cst_1
  let v9 : FVec F S16x1500x1024 .f32 := mulf v8 v4
  let v10 : FVec F S16x1500x1024 .f32 := broadcastInDim S16x1500x1024 ![0, 1, 2] bcast_S16x1500x1_S16x1500x1024_0_1_2 v2
  let v11 : FVec F S16x1500x1024 .f32 := subf v10 v9
  let v12 : FVec F S16x1500x1024 .f32 := broadcastInDim S16x1500x1024 ![0, 1, 2] bcast_S1x1x1024_S16x1500x1024_0_1_2 v7
  let v13 : FVec F S16x1500x1024 .f32 := addf v11 v12
  let v14 : FVec F S16x1500x1024 .f32 := Host.negf v13
  let v15 : FVec F S16x1500x128 .f32 := mulf arg0 arg0
  let cst_2 : FVec F S_ .f32 := constant S_ .f32 0x00000000#32
  let v16 : FVec F S16x1500 .f32 := (fun x v => Host.reduceAdd x v reducesTo_S16x1500x128_S16x1500_d2 h_S_) v15 cst_2
  let v17 : FVec F S16x1500x1 .f32 := broadcastInDim S16x1500x1 ![0, 1] bcast_S16x1500_S16x1500x1_0_1 v16
  let v18 : FVec F S128x1024 .f32 := (transpose S128x1024 [1, 0] · transposes_S1024x128_S128x1024_1_0) arg1
  let v19 : FVec F S16x1500x1024 .f32 := (fun l r => Host.dotGeneral dot_S16x1500x128_S128x1024_S16x1500x1024_2_0_01_1_n_n none l r) arg0 v18
  fn_one_nearest_at_0_part1 (F := F) arg0 arg1 v14 v17 v19

def fn_part1 {F : FTy → Type} [FloatOps F] (main_arg1 : FVec F S8x1024x128 .f32) (main_v2_1 : IVec S16x1500x1024 1) (main_v5_1 : IVec S16x1500x1024 1) (main_v8_1 : IVec S16x1500x1024 1) (main_v11_1 : IVec S16x1500x1024 1) (main_v14_1 : IVec S16x1500x1024 1) (main_v17_0 : FVec F S16x1500x128 .f32) (main_v17_1 : IVec S16x1500x1024 1) : IVec S8x1024x128 1 × IVec S16x1500x1024 1 × IVec S16x1500x1024 1 × IVec S16x1500x1024 1 × IVec S16x1500x1024 1 × IVec S16x1500x1024 1 × IVec S16x1500x1024 1 × IVec S16x1500x1024 1 × IVec S16x1500x1024 1 :=
  let main_v18 : FVec F S1x1024x128 .f32 := (extractStridedSlice S1x1024x128 ![6, 0, 0] · slices_S8x1024x128_S1x1024x128_6_0_0) main_arg1
  let main_v19 : FVec F S1024x128 .f32 := shapeCast S1024x128 main_v18 shapeCasts_S1x1024x128_S1024x128
  let main_v20_0 : FVec F S16x1500x128 .f32 := (fn_one_nearest_at_0 (F := F) main_v17_0 main_v19).1
  let main_v20_1 : IVec S16x1500x1024 1 := (fn_one_nearest_at_0 (F := F) main_v17_0 main_v19).2
  let main_v21 : FVec F S1x1024x128 .f32 := (extractStridedSlice S1x1024x128 ![7, 0, 0] · slices_S8x1024x128_S1x1024x128_7_0_0) main_arg1
  let main_v22 : FVec F S1024x128 .f32 := shapeCast S1024x128 main_v21 shapeCasts_S1x1024x128_S1024x128
  let main_v23_0 : FVec F S16x1500x128 .f32 := (fn_one_nearest_at_0 (F := F) main_v20_0 main_v22).1
  let main_v23_1 : IVec S16x1500x1024 1 := (fn_one_nearest_at_0 (F := F) main_v20_0 main_v22).2
  let main_v24 : FVec F S8x1024x128 .f32 := Host.absf main_arg1
  let main_cst : FVec F S_ .f32 := constant S_ .f32 0x7F800000#32
  let main_v25 : FVec F S8x1024x128 .f32 := broadcastInDim S8x1024x128 ![] bcast_S_S8x1024x128 main_cst
  let main_v26 : IVec S8x1024x128 1 := cmpf .olt main_v24 main_v25
  (main_v26, main_v2_1, main_v5_1, main_v8_1, main_v11_1, main_v14_1, main_v17_1, main_v20_1, main_v23_1)

def fn {F : FTy → Type} [FloatOps F] (main_arg0 : FVec F S16x1500x128 .f32) (main_arg1 : FVec F S8x1024x128 .f32) : IVec S8x1024x128 1 × IVec S16x1500x1024 1 × IVec S16x1500x1024 1 × IVec S16x1500x1024 1 × IVec S16x1500x1024 1 × IVec S16x1500x1024 1 × IVec S16x1500x1024 1 × IVec S16x1500x1024 1 × IVec S16x1500x1024 1 :=
  let main_v0 : FVec F S1x1024x128 .f32 := (extractStridedSlice S1x1024x128 ![0, 0, 0] · slices_S8x1024x128_S1x1024x128_0_0_0) main_arg1
  let main_v1 : FVec F S1024x128 .f32 := shapeCast S1024x128 main_v0 shapeCasts_S1x1024x128_S1024x128
  let main_v2_0 : FVec F S16x1500x128 .f32 := (fn_one_nearest_at (F := F) main_arg0 main_v1).1
  let main_v2_1 : IVec S16x1500x1024 1 := (fn_one_nearest_at (F := F) main_arg0 main_v1).2
  let main_v3 : FVec F S1x1024x128 .f32 := (extractStridedSlice S1x1024x128 ![1, 0, 0] · slices_S8x1024x128_S1x1024x128_1_0_0) main_arg1
  let main_v4 : FVec F S1024x128 .f32 := shapeCast S1024x128 main_v3 shapeCasts_S1x1024x128_S1024x128
  let main_v5_0 : FVec F S16x1500x128 .f32 := (fn_one_nearest_at_0 (F := F) main_v2_0 main_v4).1
  let main_v5_1 : IVec S16x1500x1024 1 := (fn_one_nearest_at_0 (F := F) main_v2_0 main_v4).2
  let main_v6 : FVec F S1x1024x128 .f32 := (extractStridedSlice S1x1024x128 ![2, 0, 0] · slices_S8x1024x128_S1x1024x128_2_0_0) main_arg1
  let main_v7 : FVec F S1024x128 .f32 := shapeCast S1024x128 main_v6 shapeCasts_S1x1024x128_S1024x128
  let main_v8_0 : FVec F S16x1500x128 .f32 := (fn_one_nearest_at_0 (F := F) main_v5_0 main_v7).1
  let main_v8_1 : IVec S16x1500x1024 1 := (fn_one_nearest_at_0 (F := F) main_v5_0 main_v7).2
  let main_v9 : FVec F S1x1024x128 .f32 := (extractStridedSlice S1x1024x128 ![3, 0, 0] · slices_S8x1024x128_S1x1024x128_3_0_0) main_arg1
  let main_v10 : FVec F S1024x128 .f32 := shapeCast S1024x128 main_v9 shapeCasts_S1x1024x128_S1024x128
  let main_v11_0 : FVec F S16x1500x128 .f32 := (fn_one_nearest_at_0 (F := F) main_v8_0 main_v10).1
  let main_v11_1 : IVec S16x1500x1024 1 := (fn_one_nearest_at_0 (F := F) main_v8_0 main_v10).2
  let main_v12 : FVec F S1x1024x128 .f32 := (extractStridedSlice S1x1024x128 ![4, 0, 0] · slices_S8x1024x128_S1x1024x128_4_0_0) main_arg1
  let main_v13 : FVec F S1024x128 .f32 := shapeCast S1024x128 main_v12 shapeCasts_S1x1024x128_S1024x128
  let main_v14_0 : FVec F S16x1500x128 .f32 := (fn_one_nearest_at_0 (F := F) main_v11_0 main_v13).1
  let main_v14_1 : IVec S16x1500x1024 1 := (fn_one_nearest_at_0 (F := F) main_v11_0 main_v13).2
  let main_v15 : FVec F S1x1024x128 .f32 := (extractStridedSlice S1x1024x128 ![5, 0, 0] · slices_S8x1024x128_S1x1024x128_5_0_0) main_arg1
  let main_v16 : FVec F S1024x128 .f32 := shapeCast S1024x128 main_v15 shapeCasts_S1x1024x128_S1024x128
  let main_v17_0 : FVec F S16x1500x128 .f32 := (fn_one_nearest_at_0 (F := F) main_v14_0 main_v16).1
  let main_v17_1 : IVec S16x1500x1024 1 := (fn_one_nearest_at_0 (F := F) main_v14_0 main_v16).2
  fn_part1 (F := F) main_arg1 main_v2_1 main_v5_1 main_v8_1 main_v11_1 main_v14_1 main_v17_0 main_v17_1
-- ==== Kernel.lean ====
abbrev S16x1500x128 : Shape := ⟨3, ![16, 1500, 128]⟩
abbrev S8x1024x128 : Shape := ⟨3, ![8, 1024, 128]⟩
abbrev S24000x128 : Shape := ⟨2, ![24000, 128]⟩
abbrev S_ : Shape := ⟨0, ![]⟩
abbrev S8x1024x384 : Shape := ⟨3, ![8, 1024, 384]⟩
abbrev S8x384x1024 : Shape := ⟨3, ![8, 384, 1024]⟩
abbrev S1024 : Shape := ⟨1, ![1024]⟩
abbrev S8x1024 : Shape := ⟨2, ![8, 1024]⟩
abbrev S1 : Shape := ⟨1, ![1]⟩
abbrev S8x24000 : Shape := ⟨2, ![8, 24000]⟩
abbrev S2048x128 : Shape := ⟨2, ![2048, 128]⟩
abbrev S8x2048 : Shape := ⟨2, ![8, 2048]⟩
abbrev S512x128 : Shape := ⟨2, ![512, 128]⟩
abbrev S128x512 : Shape := ⟨2, ![128, 512]⟩
abbrev S1x1024x128 : Shape := ⟨3, ![1, 1024, 128]⟩
abbrev S1024x128 : Shape := ⟨2, ![1024, 128]⟩
abbrev S1024x1 : Shape := ⟨2, ![1024, 1]⟩
abbrev S1024x512 : Shape := ⟨2, ![1024, 512]⟩
abbrev S512 : Shape := ⟨1, ![512]⟩
abbrev S1x512 : Shape := ⟨2, ![1, 512]⟩
abbrev S8x512 : Shape := ⟨2, ![8, 512]⟩
abbrev S1x384x1024 : Shape := ⟨3, ![1, 384, 1024]⟩
abbrev S384x1024 : Shape := ⟨2, ![384, 1024]⟩
abbrev S384x512 : Shape := ⟨2, ![384, 512]⟩
abbrev S8x16x1500 : Shape := ⟨3, ![8, 16, 1500]⟩

abbrev nBuf : Space → Nat
  | .hbm => 52
  | .vmem => 8
  | .smem => 0
  | _ => 0

abbrev bufTy : (tb : Table) → Fin (tcTables nBuf tb) → BufTy
  | .hbm, ⟨0, _⟩ => ⟨S16x1500x128, .f32⟩
  | .hbm, ⟨1, _⟩ => ⟨S8x1024x128, .f32⟩
  | .hbm, ⟨2, _⟩ => ⟨S24000x128, .f32⟩
  | .hbm, ⟨3, _⟩ => ⟨S8x1024x128, .bf16⟩
  | .hbm, ⟨4, _⟩ => ⟨S8x1024x128, .bf16⟩
  | .hbm, ⟨5, _⟩ => ⟨S8x1024x128, .f32⟩
  | .hbm, ⟨6, _⟩ => ⟨S_, .f32⟩
  | .hbm, ⟨7, _⟩ => ⟨S8x1024x128, .f32⟩
  | .hbm, ⟨8, _⟩ => ⟨S8x1024x128, .f32⟩
  | .hbm, ⟨9, _⟩ => ⟨S8x1024x128, .bf16⟩
  | .hbm, ⟨10, _⟩ => ⟨S8x1024x128, .f32⟩
  | .hbm, ⟨11, _⟩ => ⟨S8x1024x128, .f32⟩
  | .hbm, ⟨12, _⟩ => ⟨S8x1024x128, .f32⟩
  | .hbm, ⟨13, _⟩ => ⟨S8x1024x128, .i1⟩
  | .hbm, ⟨14, _⟩ => ⟨S8x1024x128, .f32⟩
  | .hbm, ⟨15, _⟩ => ⟨S8x1024x128, .f32⟩
  | .hbm, ⟨16, _⟩ => ⟨S8x1024x128, .bf16⟩
  | .hbm, ⟨17, _⟩ => ⟨S8x1024x128, .f32⟩
  | .hbm, ⟨18, _⟩ => ⟨S_, .f32⟩
  | .hbm, ⟨19, _⟩ => ⟨S8x1024x128, .f32⟩
  | .hbm, ⟨20, _⟩ => ⟨S8x1024x128, .f32⟩
  | .hbm, ⟨21, _⟩ => ⟨S8x1024x128, .bf16⟩
  | .hbm, ⟨22, _⟩ => ⟨S8x1024x128, .f32⟩
  | .hbm, ⟨23, _⟩ => ⟨S8x1024x128, .f32⟩
  | .hbm, ⟨24, _⟩ => ⟨S8x1024x128, .f32⟩
  | .hbm, ⟨25, _⟩ => ⟨S8x1024x128, .i1⟩
  | .hbm, ⟨26, _⟩ => ⟨S8x1024x128, .f32⟩
  | .hbm, ⟨27, _⟩ => ⟨S8x1024x128, .f32⟩
  | .hbm, ⟨28, _⟩ => ⟨S8x1024x128, .bf16⟩
  | .hbm, ⟨29, _⟩ => ⟨S8x1024x128, .bf16⟩
  | .hbm, ⟨30, _⟩ => ⟨S8x1024x128, .bf16⟩
  | .hbm, ⟨31, _⟩ => ⟨S8x1024x384, .bf16⟩
  | .hbm, ⟨32, _⟩ => ⟨S8x384x1024, .bf16⟩
  | .hbm, ⟨33, _⟩ => ⟨S1024, .i32⟩
  | .hbm, ⟨34, _⟩ => ⟨S_, .bf16⟩
  | .hbm, ⟨35, _⟩ => ⟨S8x1024, .bf16⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .bf16⟩
  | .hbm, ⟨40, _⟩ => ⟨S_, .i32⟩
  | .hbm, ⟨41, _⟩ => ⟨S1, .i32⟩
  | .hbm, ⟨42, _⟩ => ⟨S8x1024, .bf16⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .bf16⟩
  | .hbm, ⟨47, _⟩ => ⟨S_, .i32⟩
  | .hbm, ⟨48, _⟩ => ⟨S1, .i32⟩
  | .hbm, ⟨49, _⟩ => ⟨S8x1024, .bf16⟩
  | .hbm, ⟨50, _⟩ => ⟨S8x24000, .i32⟩
  | .hbm, ⟨51, _⟩ => ⟨S8x16x1500, .i32⟩
  | .local _ .vmem, ⟨0, _⟩ => ⟨S2048x128, .f32⟩
  | .local _ .vmem, ⟨1, _⟩ => ⟨S2048x128, .f32⟩
  | .local _ .vmem, ⟨2, _⟩ => ⟨S8x1024x128, .f32⟩
  | .local _ .vmem, ⟨3, _⟩ => ⟨S8x1024x128, .bf16⟩
  | .local _ .vmem, ⟨4, _⟩ => ⟨S8x384x1024, .bf16⟩
  | .local _ .vmem, ⟨5, _⟩ => ⟨S8x1024, .bf16⟩
  | .local _ .vmem, ⟨6, _⟩ => ⟨S8x2048, .i32⟩
  | .local _ .vmem, ⟨7, _⟩ => ⟨S8x2048, .i32⟩
  | _, _ => ⟨S16x1500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_2 : Ref sig .tc := ⟨.hbm, 40, rfl⟩
abbrev main_v34 : Ref sig .tc := ⟨.hbm, 41, rfl⟩
abbrev main_v35 : Ref sig .tc := ⟨.hbm, 42, rfl⟩
abbrev main_c_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1500x128 : Shape := ⟨3, ![16, 1500, 128]⟩
abbrev S8x1024x128 : Shape := ⟨3, ![8, 1024, 128]⟩
abbrev S_ : Shape := ⟨0, ![]⟩
abbrev S8x16x1500 : Shape := ⟨3, ![8, 16, 1500]⟩
abbrev S1x1024x128 : Shape := ⟨3, ![1, 1024, 128]⟩
abbrev S1024x128 : Shape := ⟨2, ![1024, 128]⟩
abbrev S16x1500 : Shape := ⟨2, ![16, 1500]⟩
abbrev S16x1500x1 : Shape := ⟨3, ![16, 1500, 1]⟩
abbrev S128x1024 : Shape := ⟨2, ![128, 1024]⟩
abbrev S16x1500x1024 : Shape := ⟨3, ![16, 1500, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S1x16x1500 : Shape := ⟨3, ![1, 16, 1500]⟩

abbrev nBuf : Space → Nat
  | .hbm => 68
  | .vmem => 0
  | .smem => 0
  | _ => 0

abbrev bufTy : (tb : Table) → Fin (tcTables nBuf tb) → BufTy
  | .hbm, ⟨0, _⟩ => ⟨S16x1500x128, .f32⟩
  | .hbm, ⟨1, _⟩ => ⟨S8x1024x128, .f32⟩
  | .hbm, ⟨2, _⟩ => ⟨S_, .i32⟩
  | .hbm, ⟨3, _⟩ => ⟨S8x16x1500, .i32⟩
  | .hbm, ⟨4, _⟩ => ⟨S_, .i32⟩
  | .hbm, ⟨5, _⟩ => ⟨S8x1024x128, .f32⟩
  | .hbm, ⟨6, _⟩ => ⟨S_, .i32⟩
  | .hbm, ⟨7, _⟩ => ⟨S16x1500x128, .f32⟩
  | .hbm, ⟨8, _⟩ => ⟨S8x16x1500, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S1x1024x128, .f32⟩
  | .hbm, ⟨14, _⟩ => ⟨S1024x128, .f32⟩
  | .hbm, ⟨15, _⟩ => ⟨S16x1500x128, .f32⟩
  | .hbm, ⟨16, _⟩ => ⟨S_, .f32⟩
  | .hbm, ⟨17, _⟩ => ⟨S16x1500, .f32⟩
  | .hbm, ⟨18, _⟩ => ⟨S16x1500x1, .f32⟩
  | .hbm, ⟨19, _⟩ => ⟨S128x1024, .f32⟩
  | .hbm, ⟨20, _⟩ => ⟨S16x1500x1024, .f32⟩
  | .hbm, ⟨21, _⟩ => ⟨S1024x128, .f32⟩
  | .hbm, ⟨22, _⟩ => ⟨S_, .f32⟩
  | .hbm, ⟨23, _⟩ => ⟨S1024, .f32⟩
  | .hbm, ⟨24, _⟩ => ⟨S1x1x1024, .f32⟩
  | .hbm, ⟨25, _⟩ => ⟨S_, .f32⟩
  | .hbm, ⟨26, _⟩ => ⟨S16x1500x1024, .f32⟩
  | .hbm, ⟨27, _⟩ => ⟨S16x1500x1024, .f32⟩
  | .hbm, ⟨28, _⟩ => ⟨S16x1500x1024, .f32⟩
  | .hbm, ⟨29, _⟩ => ⟨S16x1500x1024, .f32⟩
  | .hbm, ⟨30, _⟩ => ⟨S16x1500x1024, .f32⟩
  | .hbm, ⟨31, _⟩ => ⟨S16x1500x1024, .f32⟩
  | .hbm, ⟨32, _⟩ => ⟨S16x1500x1024, .f32⟩
  | .hbm, ⟨33, _⟩ => ⟨S16x1500x1024, .i32⟩
  | .hbm, ⟨34, _⟩ => ⟨S_, .f32⟩
  | .hbm, ⟨35, _⟩ => ⟨S_, .i32⟩
  | .hbm, ⟨36, _⟩ => ⟨S16x1500, .f32⟩
  | .hbm, ⟨37, _⟩ => ⟨S16x1500, .i32⟩
  | .hbm, ⟨38, _⟩ => ⟨S_, .i32⟩
  | .hbm, ⟨39, _⟩ => ⟨S16x1500, .i32⟩
  | .hbm, ⟨40, _⟩ => ⟨S16x1500, .i1⟩
  | .hbm, ⟨41, _⟩ => ⟨S_, .i32⟩
  | .hbm, ⟨42, _⟩ => ⟨S16x1500, .i32⟩
  | .hbm, ⟨43, _⟩ => ⟨S16x1500, .i32⟩
  | .hbm, ⟨44, _⟩ => ⟨S16x1500, .i32⟩
  | .hbm, ⟨45, _⟩ => ⟨S16x1500x1, .i32⟩
  | .hbm, ⟨46, _⟩ => ⟨S1, .i32⟩
  | .hbm, ⟨47, _⟩ => ⟨S_, .i32⟩
  | .hbm, ⟨48, _⟩ => ⟨S16x1500x1, .i32⟩
  | .hbm, ⟨49, _⟩ => ⟨S16x1500x1, .i1⟩
  | .hbm, ⟨50, _⟩ => ⟨S1x1x1, .i32⟩
  | .hbm, ⟨51, _⟩ => ⟨S16x1500x1, .i32⟩
  | .hbm, ⟨52, _⟩ => ⟨S16x1500x1, .i1⟩
  | .hbm, ⟨53, _⟩ => ⟨S16x1500x1, .i1⟩
  | .hbm, ⟨54, _⟩ => ⟨S_, .i1⟩
  | .hbm, ⟨55, _⟩ => ⟨S16x1500, .i1⟩
  | .hbm, ⟨56, _⟩ => ⟨S16x1500x128, .f32⟩
  | .hbm, ⟨57, _⟩ => ⟨S16x1500x128, .i1⟩
  | .hbm, ⟨58, _⟩ => ⟨S_, .f32⟩
  | .hbm, ⟨59, _⟩ => ⟨S16x1500x128, .f32⟩
  | .hbm, ⟨60, _⟩ => ⟨S16x1500x128, .f32⟩
  | .hbm, ⟨61, _⟩ => ⟨S16x1500x128, .f32⟩
  | .hbm, ⟨62, _⟩ => ⟨S1x16x1500, .i32⟩
  | .hbm, ⟨63, _⟩ => ⟨S_, .i32⟩
  | .hbm, ⟨64, _⟩ => ⟨S_, .i32⟩
  | .hbm, ⟨65, _⟩ => ⟨S8x16x1500, .i32⟩
  | .hbm, ⟨66, _⟩ => ⟨S_, .i32⟩
  | .hbm, ⟨67, _⟩ => ⟨S_, .i32⟩
  | _, _ => ⟨S16x1500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_while0c_c_4 : Ref sig .tc := ⟨.hbm, 9, rfl⟩
abbrev main_while0c_v2 : Ref sig .tc := ⟨.hbm, 10, rfl⟩
abbrev main_while0b_call0_c : Ref sig .tc := ⟨.hbm, 11, rfl⟩
abbrev main_while0b_call0_c_0 : Ref sig .tc := ⟨.hbm, 12, rfl⟩
abbrev main_while0b_call0_v0 : Ref sig .tc := ⟨.hbm, 13, rfl⟩
abbrev main_while0b_v2 : Ref sig .tc := ⟨.hbm, 14, rfl⟩
abbrev main_while0b_v3 : Ref sig .tc := ⟨.hbm, 15, rfl⟩
abbrev main_while0b_cst : Ref sig .tc := ⟨.hbm, 16, rfl⟩
abbrev main_while0b_v4 : Ref sig .tc := ⟨.hbm, 17, rfl⟩
abbrev main_while0b_v5 : Ref sig .tc := ⟨.hbm, 18, rfl⟩
abbrev main_while0b_v6 : Ref sig .tc := ⟨.hbm, 19, rfl⟩
abbrev main_while0b_v7 : Ref sig .tc := ⟨.hbm, 20, rfl⟩
abbrev main_while0b_v8 : Ref sig .tc := ⟨.hbm, 21, rfl⟩
abbrev main_while0b_cst_4 : Ref sig .tc := ⟨.hbm, 22, rfl⟩
abbrev main_while0b_v9 : Ref sig .tc := ⟨.hbm, 23, rfl⟩
abbrev main_while0b_v10 : Ref sig .tc := ⟨.hbm, 24, rfl⟩
abbrev main_while0b_cst_5 : Ref sig .tc := ⟨.hbm, 25, rfl⟩
abbrev main_while0b_v11 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_v17 : Ref sig .tc := ⟨.hbm, 32, rfl⟩
abbrev main_while0b_call1_v0 : Ref sig .tc := ⟨.hbm, 33, rfl⟩
abbrev main_while0b_call1_cst : Ref sig .tc := ⟨.hbm, 34, rfl⟩
abbrev main_while0b_call1_c : Ref sig .tc := ⟨.hbm, 35, rfl⟩
abbrev main_while0b_call1_v1_0 : Ref sig .tc := ⟨.hbm, 36, rfl⟩
abbrev main_while0b_v18 : Ref sig .tc := ⟨.hbm, 37, rfl⟩
abbrev main_while0b_call2_c : Ref sig .tc := ⟨.hbm, 38, rfl⟩
abbrev main_while0b_call2_v0 : Ref sig .tc := ⟨.hbm, 39, rfl⟩
abbrev main_while0b_call2_v1 : Ref sig .tc := ⟨.hbm, 40, rfl⟩
abbrev main_while0b_call2_c_0 : Ref sig .tc := ⟨.hbm, 41, rfl⟩
abbrev main_while0b_call2_v2 : Ref sig .tc := ⟨.hbm, 42, rfl⟩
abbrev main_while0b_call2_v3 : Ref sig .tc := ⟨.hbm, 43, rfl⟩
abbrev main_while0b_call2_v4 : Ref sig .tc := ⟨.hbm, 44, rfl⟩
abbrev main_while0b_call2_v5 : Ref sig .tc := ⟨.hbm, 45, rfl⟩
abbrev main_while0b_call2_c_1 : Ref sig .tc := ⟨.hbm, 46, rfl⟩
abbrev main_while0b_call2_c_2 : Ref sig .tc := ⟨.hbm, 47, rfl⟩
abbrev main_while0b_call2_v6 : Ref sig .tc := ⟨.hbm, 48, rfl⟩
abbrev main_while0b_call2_v7 : Ref sig .tc := ⟨.hbm, 49, rfl⟩
abbrev main_while0b_call2_v8 : Ref sig .tc := ⟨.hbm, 50, rfl⟩
abbrev main_while0b_call2_v9 : Ref sig .tc := ⟨.hbm, 51, rfl⟩
abbrev main_while0b_call2_v10 : Ref sig .tc := ⟨.hbm, 52, rfl⟩
abbrev main_while0b_call2_v11 : Ref sig .tc := ⟨.hbm, 53, rfl⟩
abbrev main_while0b_call2_c_3 : Ref sig .tc := ⟨.hbm, 54, rfl⟩
abbrev main_while0b_call2_v12 : Ref sig .tc := ⟨.hbm, 55, rfl⟩
abbrev main_while0b_call2_v13 : Ref sig .tc := ⟨.hbm, 56, rfl⟩
abbrev main_while0b_call2_v14 : Ref sig .tc := ⟨.hbm, 57, rfl⟩
abbrev main_while0b_call2_cst : Ref sig .tc := ⟨.hbm, 58, rfl⟩
abbrev main_while0b_call2_v15 : Ref sig .tc := ⟨.hbm, 59, rfl⟩
abbrev main_while0b_v19 : Ref sig .tc := ⟨.hbm, 60, rfl⟩
abbrev main_while0b_v20 : Ref sig .tc := ⟨.hbm, 61, rfl⟩
abbrev main_while0b_call3_v0 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_v21 : Ref sig .tc := ⟨.hbm, 65, rfl⟩
abbrev main_while0b_c_6 : Ref sig .tc := ⟨.hbm, 66, rfl⟩
abbrev main_while0b_v22 : Ref sig .tc := ⟨.hbm, 67, rfl⟩

abbrev nD : Nat := 1
abbrev τ : Topo := Topo.v7x

variable {F : FTy → Type} [FloatOps F]

abbrev main_while0_count : Scf.Loop 32 := ⟨0#32, 8#32, 1#32⟩
-- ==== Proof.FrameKernel.lean ====
/-
  The frame of the kernel as it computes on floats: every execution ends with the arguments as launched and every counter at
  zero. Nothing is said here of what the result holds.
-/
module

public import proofs.«01_k».proof.Proof.RunKernel
public import proofs.«01_k».proof.Proof.Gen.Kernel.Frame
public import Idealize.ShloMosaic.Lib.VecWindow

@[expose] public section

noncomputable section

namespace Cert.Kernel.FrameRun

open Cert.Kernel Cert.Kernel.Gen Cert.Kernel.Run

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on owned buffers -/

/-- A whole memref owned at `X` is its buffer held at some contents that read `X`. -/
theorem owns_holds (c : Dev nD) {sp : Space} {S : Shape} {e : EltTy} {M : Memref sig .tc sp S e} (h : M.IsWhole) (X : S.Idx → Elt F e) :
    (owns (c : Thread nD τ) M fullShare X : sProp 𝕄) = iprop(∃ f : Held (F := F) c M, ⌜M.view.read (Elt F) f = X⌝ ∗ holds c M f) := by
  unfold owns; rw [h.set_eq_univ]

/-- The body run on six owned buffers: the five inputs come back as they were, the result's buffer at some contents. -/
theorem body_owns (c : Dev nD) (E : Set ℕ) (i : grid0.Coords)
    (M0 : Memref sig .tc .vmem S2048x128 .f32) (h0 : M0.IsWhole) (M1 : Memref sig .tc .vmem S8x1024x128 .f32) (h1 : M1.IsWhole)
    (M2 : Memref sig .tc .vmem S8x1024x128 .bf16) (h2 : M2.IsWhole) (M3 : Memref sig .tc .vmem S8x384x1024 .bf16) (h3 : M3.IsWhole)
    (M4 : Memref sig .tc .vmem S8x1024 .bf16) (h4 : M4.IsWhole) (M5 : Memref sig .tc .vmem S8x2048 .i32) (h5 : M5.IsWhole)
    (X0 : S2048x128.Idx → Elt F .f32) (X1 : S8x1024x128.Idx → Elt F .f32) (X2 : S8x1024x128.Idx → Elt F .bf16)
    (X3 : S8x384x1024.Idx → Elt F .bf16) (X4 : S8x1024.Idx → Elt F .bf16) (X5 : S8x2048.Idx → Elt F .i32) (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5)
          ∗ (iprop(owns (c : Thread nD τ) M0 fullShare X0 ∗ owns (c : Thread nD τ) M1 fullShare X1 ∗ owns (c : Thread nD τ) M2 fullShare X2
                  ∗ owns (c : Thread nD τ) M3 fullShare X3 ∗ owns (c : Thread nD τ) M4 fullShare X4 ∗ (∃ X, owns (c : Thread nD τ) M5 fullShare X)) -∗ K ⟨⟩))
      ⊢ wp frame (wpE (defs₀ (F := F)) Variants.none c none) E (cc0__rvq_block i M0 h0 M1 h1 M2 h2 M3 h3 M4 h4 M5 h5) K := by
  simp only [owns_holds c h0, owns_holds c h1, owns_holds c h2, owns_holds c h3, owns_holds c h4, owns_holds c h5]
  iintro ⟨⟨⟨%f0, %e0, H0⟩, ⟨%f1, %e1, H1⟩, ⟨%f2, %e2, H2⟩, ⟨%f3, %e3, H3⟩, ⟨%f4, %e4, H4⟩, ⟨%f5, %e5, H5⟩⟩, Hk⟩
  obtain ⟨W, hW⟩ := bodyRun c i M0 h0 M1 h1 M2 h2 M3 h3 M4 h4 M5 h5 f0 f1 f2 f3 f4
  iapply (hW f5 E K)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  · iexists W
    iexists (M5.view.writes (Elt F) f5 [⟨Rect.unit (s := S8x2048) ![0, 0] S8x2048.size inb_S8x2048_S8x2048_0_0, W⟩])
    isplitr; · ipureintro; exact View.read_writes_full _ _ _ _ _
    iexact H5

/-! ## The proof data: the inputs at their blocks, nothing of the result -/

/-- After the body at a point every input's buffer holds its block; the first window's, whose last block overhangs its
    array, is filled out by the zero word, which nothing reads. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => fun _ => (0#32 : BitVec 32)
  Φ _ := Pipeline.ΦA spec0 c
  q _ := fullShare
  owed _ := 0

/-- The one window of which nothing is said: the result's. -/
def fgt (w : Fin cfg0.W) : Bool := match w with
  | ⟨5, _⟩ => true
  | _ => false

/-- The first window's buffer just fetched: the block on the rows inside the array, anything elsewhere. -/
theorem before_0 (c : Dev nD) (t : Fin cfg0.N) (d) :
    (dats m 0 c).before (0 : Fin 6) t d = win0_0.fill (grid0.coords t) d (iblk m c 0 t) := by
  unfold Dat.before; rw [if_pos (fetch0_0 t)]; rfl

/-- Window 1's buffer after the body: its block still. -/
theorem after_1 (c : Dev nD) (t : Fin cfg0.N) : (dats m 0 c).after 1 t = iblk m c 1 t := by unfold dats; dsimp only

/-- Window 1's buffer holds its block at every point. -/
theorem before_1 (c : Dev nD) (t : Fin cfg0.N) (d) : (dats m 0 c).before (1 : Fin 6) t d = iblk m c 1 t :=
  before0_1_of m (dats m 0 c) rfl (after_1 m c) t d

/-- Window 2's buffer after the body: its block still. -/
theorem after_2 (c : Dev nD) (t : Fin cfg0.N) : (dats m 0 c).after 2 t = iblk m c 2 t := by unfold dats; dsimp only

/-- Window 2's buffer holds its block at every point. -/
theorem before_2 (c : Dev nD) (t : Fin cfg0.N) (d) : (dats m 0 c).before (2 : Fin 6) t d = iblk m c 2 t :=
  before0_2_of m (dats m 0 c) rfl (after_2 m c) t d

/-- Window 3's buffer after the body: its block still. -/
theorem after_3 (c : Dev nD) (t : Fin cfg0.N) : (dats m 0 c).after 3 t = iblk m c 3 t := by unfold dats; dsimp only

/-- Window 3's buffer holds its block at every point. -/
theorem before_3 (c : Dev nD) (t : Fin cfg0.N) (d) : (dats m 0 c).before (3 : Fin 6) t d = iblk m c 3 t :=
  before0_3_of m (dats m 0 c) rfl (after_3 m c) t d

/-- Window 4's buffer after the body: its block still. -/
theorem after_4 (c : Dev nD) (t : Fin cfg0.N) : (dats m 0 c).after 4 t = iblk m c 4 t := by unfold dats; dsimp only

/-- Window 4's buffer holds its block at every point. -/
theorem before_4 (c : Dev nD) (t : Fin cfg0.N) (d) : (dats m 0 c).before (4 : Fin 6) t d = iblk m c 4 t :=
  before0_4_of m (dats m 0 c) rfl (after_4 m c) t d

/-- The first window's buffer after the body: its block, filled out. -/
theorem after_0 (c : Dev nD) (t : Fin cfg0.N) : (dats m 0 c).after 0 t
    = win0_0.fill (grid0.coords t) (fun _ => Scalar.ofBits .f32 0#32) (iblk m c 0 t) := by unfold dats; dsimp only

set_option maxHeartbeats 1000000 in
/-- The body meets its obligation at every point. -/
theorem body_obligation (c : Dev nD) : BodyObligationLoose (dats m 0 c) (defs₀ (F := F)) Variants.none () Set.univ fgt := fun t => by
  rw [bigSep_W0, bigSep_W0]
  rw [show fgt 0 = false from rfl, show fgt 1 = false from rfl, show fgt 2 = false from rfl, show fgt 3 = false from rfl,
    show fgt 4 = false from rfl, show fgt 5 = true from rfl]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%X5, H5⟩⟩
  rw [before_0 m c t d0, before_1 m c t d1, before_2 m c t d2, before_3 m c t d3, before_4 m c t d4,
    after_0 m c t, after_1 m c t, after_2 m c t, after_3 m c t, after_4 m c t]
  iapply (body_owns (F := F) c Set.univ (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) (st0_3 t)
    (hstage0_3 ((cfg0.slots t 3).cast nbuf0_3)) (st0_4 t) (hstage0_4 ((cfg0.slots t 4).cast nbuf0_4)) (st0_5 t)
    (hstage0_5 ((cfg0.slots t 5).cast nbuf0_5)) (win0_0.fill (grid0.coords t) d0 (iblk m c 0 t)) (iblk m c 1 t) (iblk m c 2 t) (iblk m c 3 t)
    (iblk m c 4 t) X5 _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  have hx : win0_0.cut (grid0.coords t) (win0_0.fill (grid0.coords t) (fun _ => Scalar.ofBits .f32 0#32) (iblk m c 0 t)) = iblk m c 0 t :=
    win0_0.cut_fill _ _ _
  isplitl [H0]
  · iexists d0
    change _ ⊢ owns (c : Thread nD τ) (st0_0 t) fullShare (win0_0.fill (grid0.coords t) d0
      (win0_0.cut (grid0.coords t) (win0_0.fill (grid0.coords t) (fun _ => Scalar.ofBits .f32 0#32) (iblk m c 0 t))))
    rw [hx]; try iexact H0
  isplitl [H1]; · iexact H1
  isplitl [H2]; · iexact H2
  isplitl [H3]; · iexact H3
  isplitl [H4]; · iexact H4
  iexact H5

/-! ## The run -/

/-- The lines after the region write the final result only. -/
theorem sfx_writes : ∀ ops ∈ ([hostOps1] : List (List (HloOp τ sig (Elt F)))), ∀ op ∈ ops, ∀ b : Ref sig .tc,
    Proc.devRef .tc b ∈ op.writes → b ∈ ({main_v42} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  rw [Finset.mem_singleton]
  by_contra hne
  exact StableHlo.devRef_ne_of_ne hne hb

/-- The arguments are as launched and every counter is at zero. -/
def Quiet (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0

/-- Every execution ends, the arguments as launched and every counter at zero. -/
theorem run : θ_run defs (onTc (τ := τ) (main (F := F))) (s₀ m ρ) (Quiet m) :=
  Pipeline.θ_run_frame_around_T_forget cfgs (dats m) 0 launch0 defs₀ Variants.none fgt {main_v42} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := fun _ _ => rfl) (hΦ := fun _ _ => rfl) (Q' := Quiet m)
    (hQ' := fun r h => ⟨fun c =>
      ⟨((h.1 c).2 main_arg0 (Finset.mem_sdiff.mpr ⟨Pipeline.mem_restRefs_of main_arg0 (by decide) (by decide), by decide⟩)).trans (V_main_arg0 m c),
        (Pipeline.RDat.FramePostR.arr_in h.1 c 1 rfl).trans (V_main_arg1 m c)⟩, h.2⟩)

end Cert.Kernel.FrameRun

end
-- ==== Proof.RunIdeal.lean ====
/-
  The body of the kernel `KernelIdeal` run once, at any operands: what it loads, and what it stores in the result's buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the buffer of memref `M` holds on core `c`, and that buffer held whole at `f`. -/
abbrev Held (c : Dev nD) {sp : Space} {S : Shape} {e : EltTy} (M : Memref sig .tc sp S e) : Type := Buf (Elt F) (M.view.loc (c : Thread nD τ))
abbrev holds (c : Dev nD) {sp : Space} {S : Shape} {e : EltTy} (M : Memref sig .tc sp S e) (f : Held (F := F) c M) : sProp 𝕄 :=
  M.view.loc (c : Thread nD τ) ↦{fullShare} f

set_option maxHeartbeats 4000000 in
/-- The body run from its six buffers held whole: the five inputs' contents come back as they were, and the result's
    buffer ends overwritten by a block that depends on the inputs alone — the first component, which the run finds. -/
noncomputable def bodyRun (c : Dev nD) (i : grid0.Coords)
    (M0 : Memref sig .tc .vmem S2048x128 .f32) (h0 : M0.IsWhole) (M1 : Memref sig .tc .vmem S8x1024x128 .f32) (h1 : M1.IsWhole)
    (M2 : Memref sig .tc .vmem S8x1024x128 .bf16) (h2 : M2.IsWhole) (M3 : Memref sig .tc .vmem S8x384x1024 .bf16) (h3 : M3.IsWhole)
    (M4 : Memref sig .tc .vmem S8x1024 .bf16) (h4 : M4.IsWhole) (M5 : Memref sig .tc .vmem S8x2048 .i32) (h5 : M5.IsWhole)
    (f0 : Held (F := F) c M0) (f1 : Held (F := F) c M1) (f2 : Held (F := F) c M2) (f3 : Held (F := F) c M3) (f4 : Held (F := F) c M4) :
    { W : Vec F S8x2048 .i32 //
      ∀ (f5 : Held (F := F) c M5) (E : Set ℕ) (Q : PUnit → sProp 𝕄),
        iprop(holds c M0 f0 ∗ holds c M1 f1 ∗ holds c M2 f2 ∗ holds c M3 f3 ∗ holds c M4 f4 ∗ holds c M5 f5
          ∗ (iprop(holds c M0 f0 ∗ holds c M1 f1 ∗ holds c M2 f2 ∗ holds c M3 f3 ∗ holds c M4 f4 ∗ holds c M5 (M5.view.writes (Elt F) f5 [⟨Rect.unit (s := S8x2048) ![0, 0] S8x2048.size inb_S8x2048_S8x2048_0_0, W⟩])) -∗ Q ⟨⟩))
        ⊢ wp frame (wpE (defs₀ (F := F)) Variants.none c none) E
            (cc0__rvq_block i M0 h0 M1 h1 M2 h2 M3 h3 M4 h4 M5 h5) Q } := by
  refine ⟨?_, fun f5 E Q => ?run⟩
  case run =>
    iintro ⟨H0, H1, H2, H3, H4, H5, Hk⟩
    sl_exec_parts
    sl_step
    iapply Hk
    isplitl [H0]; · iexact H0
    isplitl [H1]; · iexact H1
    isplitl [H2]; · iexact H2
    isplitl [H3]; · iexact H3
    isplitl [H4]; · iexact H4
    iexact H5

end Cert.KernelIdeal.Run

end
-- ==== Proof.Block.lean ====
/-
  What one grid point of the kernel computes, in the kernel's own vector operations, at any float values: one stage of
  one chain of 512 tokens (`hot`, `code`, `next`), the eight stages of a chain (`resid`, `chain`), and the four chains
  side by side (`block`). `run_eq` says that the block the body stores is this one.
-/
module

public import proofs.«01_k».proof.Proof.RunIdeal
public import Idealize.ShloMosaic.Lib.Pipeline.FrameBody

@[expose] public section

noncomputable section

namespace Cert.KernelIdeal.Block

open Cert.KernelIdeal Cert.KernelIdeal.Gen Cert.KernelIdeal.Run

open Idealize.ShloMosaic
open Idealize.ShloMosaic.TcCoe
open Idealize.ShloMosaic.View (ld)

variable {F : FTy → Type} [FloatOps F]

/-! ## One stage of one chain -/

/-- Half the squared length of every entry of a stage's codebook, as a column. -/
def halfSq (C : Vec F S1x1024x128 .f32) : FVec F S1024x1 .f32 :=
  have e := shapeCast S1024x128 C shapeCasts_S1x1024x128_S1024x128
  mulf (broadcast S1024x1 (Scalar.ofBits .f32 0x3F000000#32))
    (shapeCast S1024x1 (multiReduction .add [1] S1024 (mulf e e) 0x00000000#32 reduces_S1024x128_S1024 (.inl rfl) rfl) shapeCasts_S1024_S1024x1)

/-- The score of every entry for every token of the chain: half the entry's squared length less its product with the
    token's residual. -/
def score (C : Vec F S1x1024x128 .f32) (B : Vec F S1x1024x128 .bf16) (r : FVec F S128x512 .f32) : FVec F S1024x512 .f32 :=
  subf (broadcastTo S1024x512 (halfSq C) broadcasts_S1024x1_S1024x512)
    (matmul dot_S1024x128_S128x512_S1024x512_1_0_0_1_n_n none (shapeCast S1024x128 B shapeCasts_S1x1024x128_S1024x128)
      (truncf .bf16 r bitsLt_bf16_f32) (constant S1024x512 .f32 0x00000000#32))

/-- One where an entry's score is the token's least, zero elsewhere. -/
def hot (C : Vec F S1x1024x128 .f32) (B : Vec F S1x1024x128 .bf16) (r : FVec F S128x512 .f32) : FVec F S1024x512 .bf16 :=
  have s := score C B r
  have least := broadcastTo S1024x512 (shapeCast S1x512
    (multiReduction .minimumf [0] S512 s 0x7F800000#32 reduces_S1024x512_S512 (.inl rfl) rfl) shapeCasts_S512_S1x512) broadcasts_S1x512_S1024x512
  truncf .bf16 (sitofp .f32 (extui 32 (cmpf .oeq s least) natLt_1_32)) bitsLt_bf16_f32

/-- The index of the marked entry of every token, read off the table of index digits `T`. -/
def code (T : Vec F S8x1024 .bf16) (h : FVec F S1024x512 .bf16) : IVec S1x512 32 :=
  have p := matmul dot_S8x1024_S1024x512_S8x512_1_0_0_1_n_n none (shapeCast S8x1024 T shapeCasts_S8x1024_S8x1024) h
    (constant S8x512 .f32 0x00000000#32)
  fptosi 32 (addf (mulf (extractStridedSlice S1x512 ![0, 0] p slices_S8x512_o0_0_S1x512) (broadcast S1x512 (Scalar.ofBits .f32 0x43800000#32)))
    (extractStridedSlice S1x512 ![1, 0] p slices_S8x512_o1_0_S1x512))

/-- The residual less the marked entry, whose three parts `L` lists one under the other. -/
def next (L : Vec F S1x384x1024 .bf16) (h : FVec F S1024x512 .bf16) (r : FVec F S128x512 .f32) : FVec F S128x512 .f32 :=
  have q := matmul dot_S384x1024_S1024x512_S384x512_1_0_0_1_n_n none (shapeCast S384x1024 L shapeCasts_S1x384x1024_S384x1024) h
    (constant S384x512 .f32 0x00000000#32)
  subf r (addf (addf (extractStridedSlice S128x512 ![0, 0] q slices_S384x512_o0_0_S128x512)
    (extractStridedSlice S128x512 ![128, 0] q slices_S384x512_o128_0_S128x512)) (extractStridedSlice S128x512 ![256, 0] q slices_S384x512_o256_0_S128x512))

/-! ## The eight stages of a chain, and the four chains -/

/-- What the five input buffers hold. -/
structure Inputs (F : FTy → Type) where
  x : S2048x128.Idx → Elt F .f32
  cb : S8x1024x128.Idx → Elt F .f32
  cbb : S8x1024x128.Idx → Elt F .bf16
  cb3 : S8x384x1024.Idx → Elt F .bf16
  tab : S8x1024.Idx → Elt F .bf16

namespace Inputs

variable (I : Inputs F)

/-- Stage `s`'s codebook, -/
def cbAt (s : Fin 8) : Vec F S1x1024x128 .f32 :=
  ld I.cb (Rect.unit (s := S8x1024x128) ![s.val, 0, 0] S1x1024x128.size (by intro a; fin_cases a <;> simp <;> omega))
/-- the same narrowed, -/
def cbbAt (s : Fin 8) : Vec F S1x1024x128 .bf16 :=
  ld I.cbb (Rect.unit (s := S8x1024x128) ![s.val, 0, 0] S1x1024x128.size (by intro a; fin_cases a <;> simp <;> omega))
/-- and its three parts. -/
def cb3At (s : Fin 8) : Vec F S1x384x1024 .bf16 :=
  ld I.cb3 (Rect.unit (s := S8x384x1024) ![s.val, 0, 0] S1x384x1024.size (by intro a; fin_cases a <;> simp <;> omega))
/-- The table of index digits. -/
def tabAll : Vec F S8x1024 .bf16 := ld I.tab (Rect.unit (s := S8x1024) ![0, 0] S8x1024.size inb_S8x1024_S8x1024_0_0)

/-- Chain `h`'s tokens: 512 rows of the block, each a column. -/
def start (h : Fin 4) : FVec F S128x512 .f32 :=
  transpose S128x512 [1, 0] (shapeCast S512x128 (ld I.x (Rect.unit (s := S2048x128) ![512 * h.val, 0] S512x128.size
    (by intro a; fin_cases a <;> simp <;> omega)) : Vec F S512x128 .f32) shapeCasts_S512x128_S512x128) transposes_S512x128_p1_0_S128x512

/-- One stage of a chain: the residual less the entry nearest to it. -/
def stage (s : Fin 8) (r : FVec F S128x512 .f32) : FVec F S128x512 .f32 := next (I.cb3At s) (hot (I.cbAt s) (I.cbbAt s) r) r

/-- The residuals of chain `h` before stage `s`. -/
def resid (h : Fin 4) : ℕ → FVec F S128x512 .f32
  | 0 => I.start h
  | s + 1 => I.stage (Fin.ofNat 8 s) (resid h s)

/-- Stage `s`'s codes of tokens whose residuals are `r`. -/
def codeOf (s : Fin 8) (r : FVec F S128x512 .f32) : IVec S1x512 32 := code I.tabAll (hot (I.cbAt s) (I.cbbAt s) r)

/-- Chain `h`'s codes at stage `s`. -/
def codeAt (h : Fin 4) (s : ℕ) : IVec S1x512 32 := I.codeOf (Fin.ofNat 8 s) (I.resid h s)

/-- Chain `h`'s codes, one row per stage. -/
def chain (h : Fin 4) : IVec S8x512 32 :=
  concatenate S8x512 0 [⟨S1x512, I.codeAt h 0⟩, ⟨S1x512, I.codeAt h 1⟩, ⟨S1x512, I.codeAt h 2⟩, ⟨S1x512, I.codeAt h 3⟩,
    ⟨S1x512, I.codeAt h 4⟩, ⟨S1x512, I.codeAt h 5⟩, ⟨S1x512, I.codeAt h 6⟩, ⟨S1x512, I.codeAt h 7⟩]
    concatenates_S1x512_S1x512_S1x512_S1x512_S1x512_S1x512_S1x512_S1x512_S8x512_d0

/-- The block the body stores: the four chains side by side. -/
def block : IVec S8x2048 32 :=
  concatenate S8x2048 1 [⟨S8x512, I.chain 0⟩, ⟨S8x512, I.chain 1⟩, ⟨S8x512, I.chain 2⟩, ⟨S8x512, I.chain 3⟩]
    concatenates_S8x512_S8x512_S8x512_S8x512_S8x2048_d1

end Inputs

/-! ## The body's run stores that block -/

/-- The inputs as the buffers hold them. -/
def inputs (c : Dev nD)
    (M0 : Memref sig .tc .vmem S2048x128 .f32) (M1 : Memref sig .tc .vmem S8x1024x128 .f32)
    (M2 : Memref sig .tc .vmem S8x1024x128 .bf16) (M3 : Memref sig .tc .vmem S8x384x1024 .bf16)
    (M4 : Memref sig .tc .vmem S8x1024 .bf16)
    (f0 : Held (F := F) c M0) (f1 : Held (F := F) c M1) (f2 : Held (F := F) c M2) (f3 : Held (F := F) c M3) (f4 : Held (F := F) c M4) : Inputs F :=
  ⟨M0.view.read (Elt F) f0, M1.view.read (Elt F) f1, M2.view.read (Elt F) f2, M3.view.read (Elt F) f3, M4.view.read (Elt F) f4⟩

/-- A vector computed by stage `s` from one that is the residual before it is the residual after it. -/
theorem resid_of (I : Inputs F) {h : Fin 4} {s : ℕ} {t r : FVec F S128x512 .f32} (e : t = I.stage (Fin.ofNat 8 s) r) (e' : r = I.resid h s) :
    t = I.resid h (s + 1) := by subst e'; exact e

/-- A vector of codes computed from the residual before stage `s` is the stage's codes. -/
theorem codeAt_of (I : Inputs F) {h : Fin 4} {s : ℕ} {v : IVec S1x512 32} {r : FVec F S128x512 .f32} (e : v = I.codeOf (Fin.ofNat 8 s) r)
    (e' : r = I.resid h s) : v = I.codeAt h s := by subst e'; exact e

/-- A chain's eight codes, each known, are the chain's. -/
theorem chain_of (I : Inputs F) {h : Fin 4} {v0 v1 v2 v3 v4 v5 v6 v7 : IVec S1x512 32} (e0 : v0 = I.codeAt h 0) (e1 : v1 = I.codeAt h 1)
    (e2 : v2 = I.codeAt h 2) (e3 : v3 = I.codeAt h 3) (e4 : v4 = I.codeAt h 4) (e5 : v5 = I.codeAt h 5) (e6 : v6 = I.codeAt h 6)
    (e7 : v7 = I.codeAt h 7) {t : IVec S8x512 32}
    (e : t = concatenate S8x512 0 [⟨S1x512, v0⟩, ⟨S1x512, v1⟩, ⟨S1x512, v2⟩, ⟨S1x512, v3⟩, ⟨S1x512, v4⟩, ⟨S1x512, v5⟩, ⟨S1x512, v6⟩, ⟨S1x512, v7⟩]
      concatenates_S1x512_S1x512_S1x512_S1x512_S1x512_S1x512_S1x512_S1x512_S8x512_d0) : t = I.chain h := by
  subst e e0 e1 e2 e3 e4 e5 e6 e7; rfl

/-- Four chains side by side are the block. -/
theorem block_of (I : Inputs F) {v0 v1 v2 v3 : IVec S8x512 32} {t : IVec S8x2048 32}
    (e : t = concatenate S8x2048 1 [⟨S8x512, v0⟩, ⟨S8x512, v1⟩, ⟨S8x512, v2⟩, ⟨S8x512, v3⟩] concatenates_S8x512_S8x512_S8x512_S8x512_S8x2048_d1)
    (e0 : v0 = I.chain 0) (e1 : v1 = I.chain 1) (e2 : v2 = I.chain 2) (e3 : v3 = I.chain 3) : t = I.block := by
  subst e e0 e1 e2 e3; rfl

end Cert.KernelIdeal.Block

end
-- ==== Proof.BlockRun.lean ====
/-
  The block that the body's run stores is `Block`'s: stage by stage, the run's values are the chains' residuals and codes.
-/
module

public import proofs.«01_k».proof.Proof.Block

@[expose] public section

noncomputable section

namespace Cert.KernelIdeal.Block

open Cert.KernelIdeal Cert.KernelIdeal.Gen Cert.KernelIdeal.Run
open Idealize.ShloMosaic
open Idealize.ShloMosaic.TcCoe

variable {F : FTy → Type} [FloatOps F]

set_option maxHeartbeats 2000000 in
/-- The block the body's run stores is `block` of what the input buffers hold. -/
theorem run_eq (c : Dev nD) (i : grid0.Coords)
    (M0 : Memref sig .tc .vmem S2048x128 .f32) (h0 : M0.IsWhole) (M1 : Memref sig .tc .vmem S8x1024x128 .f32) (h1 : M1.IsWhole)
    (M2 : Memref sig .tc .vmem S8x1024x128 .bf16) (h2 : M2.IsWhole) (M3 : Memref sig .tc .vmem S8x384x1024 .bf16) (h3 : M3.IsWhole)
    (M4 : Memref sig .tc .vmem S8x1024 .bf16) (h4 : M4.IsWhole) (M5 : Memref sig .tc .vmem S8x2048 .i32) (h5 : M5.IsWhole)
    (f0 : Held (F := F) c M0) (f1 : Held (F := F) c M1) (f2 : Held (F := F) c M2) (f3 : Held (F := F) c M3) (f4 : Held (F := F) c M4) :
    (bodyRun c i M0 h0 M1 h1 M2 h2 M3 h3 M4 h4 M5 h5 f0 f1 f2 f3 f4).1 = (inputs c M0 M1 M2 M3 M4 f0 f1 f2 f3 f4).block := by
  generalize hI : inputs c M0 M1 M2 M3 M4 f0 f1 f2 f3 f4 = I
  refine block_of I rfl ?_ ?_ ?_ ?_
  all_goals refine chain_of I (e := rfl) ?_ ?_ ?_ ?_ ?_ ?_ ?_ ?_
  all_goals subst hI; refine codeAt_of _ rfl ?_
  all_goals repeat refine resid_of _ rfl ?_
  all_goals rfl

end Cert.KernelIdeal.Block

end
-- ==== Proof.Token.lean ====
/-
  One token at one stage, over the extended reals: what the reference maximises (`dist`), what the kernel minimises
  (`score`), and why the two choose the same codebook entry of finite data when that entry is the only nearest one.
-/
module

public import Idealize.ShloMosaic.PureOps.Ideal.Laws
public import Idealize.ShloMosaic.Lib.IdealHost

@[expose] public section

noncomputable section

namespace Cert.Token

open Idealize.ShloMosaic

/-- A token's residual, a stage's codebook, and a vector with one value per codebook entry. -/
abbrev Tok := Fin 128 → EReal
abbrev Book := Fin 1024 → Fin 128 → EReal
abbrev PerEntry := Fin 1024 → EReal

/-! ## The reference's choice -/

/-- Minus the squared distance of entry `k`, expanded as the reference expands it. -/
def dist (e : Book) (r : Tok) (k : Fin 1024) : EReal :=
  -((∑ x, r x * r x) - 2 * (∑ x, r x * e k x) + ∑ x, e k x * e k x)

/-- Entry `i` is nearer than every other. -/
def Nearest (e : Book) (r : Tok) (i : Fin 1024) : Prop := ∀ k, k ≠ i → dist e r k < dist e r i

/-- The residual once entry `i` is taken off it. -/
def less (e : Book) (r : Tok) (i : Fin 1024) : Tok := fun d => r d - e i d

/-! ## The kernel's choice -/

/-- Half entry `k`'s squared length less its product with the residual: `c` is the codebook and `b` the codebook narrowed. -/
def score (c b : Book) (r : Tok) (k : Fin 1024) : EReal :=
  Ideal.ofBits .f32 0x3F000000#32 * (∑ x, c k x * c k x) - ∑ x, b k x * r x

/-- One at the entries whose value is least, zero elsewhere. -/
def mark (s : PerEntry) (k : Fin 1024) : EReal :=
  if s k = Finset.univ.fold min (Ideal.ofBits .f32 0x7F800000#32) s then 1 else 0

/-- The index of the marked entry, from the two digits `t0` and `t1` of every index to base 256. -/
def code (t0 t1 : PerEntry) (m : PerEntry) : BitVec 32 :=
  Ideal.fptosi 32 ((∑ k, t0 k * m k) * Ideal.ofBits .f32 0x43800000#32 + ∑ k, t1 k * m k)

/-- The residual less the marked entry, which the table `l` holds in three parts. -/
def next (l : Fin 384 → PerEntry) (m : PerEntry) (r : Tok) : Tok := fun d =>
  r d - (∑ k, l ⟨d.val, by omega⟩ k * m k + ∑ k, l ⟨128 + d.val, by omega⟩ k * m k + ∑ k, l ⟨256 + d.val, by omega⟩ k * m k)

/-! ## Finite data -/

/-- Every component is a real number. -/
def Fin1 (r : Tok) : Prop := ∀ d, ∃ x : ℝ, r d = x
def Fin2 (e : Book) : Prop := ∀ k, Fin1 (e k)

/-- An extended real whose absolute value is below infinity is a real number. -/
theorem exists_real {x : EReal} (h : max x (-x) < ⊤) : ∃ y : ℝ, x = y := by
  induction x using EReal.rec with
  | bot => simp at h
  | top => simp at h
  | coe y => exact ⟨y, rfl⟩

/-- A finite sum of real numbers is a real number. -/
theorem coe_sum {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

/-- The word of a half, -/
theorem ofBits_half : Ideal.ofBits .f32 0x3F000000#32 = ((1 / 2 : ℝ) : EReal) := by
  simp [Ideal.ofBits, Ideal.ieee, -EReal.coe_mul]; norm_num
/-- of two, -/
theorem ofBits_two : Ideal.ofBits .f32 0x40000000#32 = 2 := by
  rw [show (2 : EReal) = ((2 : ℝ) : EReal) by norm_cast]
  simp [Ideal.ofBits, Ideal.ieee, -EReal.coe_mul]; norm_num
/-- of 256, -/
theorem ofBits_256 : Ideal.ofBits .f32 0x43800000#32 = ((256 : ℝ) : EReal) := by
  simp [Ideal.ofBits, Ideal.ieee, -EReal.coe_mul]; norm_num
/-- of infinity -/
theorem ofBits_top : Ideal.ofBits .f32 0x7F800000#32 = ⊤ := by simp [Ideal.ofBits, Ideal.ieee]
/-- and of minus infinity. -/
theorem ofBits_bot : Ideal.ofBits .f32 0xFF800000#32 = ⊥ := by simp [Ideal.ofBits, Ideal.ieee]

/-- On finite data the reference's value is above another's exactly when the kernel's is below it: each is the other
    scaled by minus two and moved by the residual's squared length. -/
theorem dist_lt_iff {e : Book} {r : Tok} (he : Fin2 e) (hr : Fin1 r) (k i : Fin 1024) :
    dist e r k < dist e r i ↔ score e e r i < score e e r k := by
  choose r' hr' using hr
  choose e' he' using he
  obtain rfl : r = fun d => (r' d : EReal) := funext hr'
  obtain rfl : e = fun k d => (e' k d : EReal) := funext fun k => funext fun d => he' k d
  have h2 : (2 : EReal) = ((2 : ℝ) : EReal) := by norm_cast
  have hc : ∀ k, ∑ x, e' k x * r' x = ∑ x, r' x * e' k x := fun k => Finset.sum_congr rfl fun x _ => mul_comm _ _
  simp only [dist, score, ofBits_half, h2, ← EReal.coe_mul, ← EReal.coe_sub, ← EReal.coe_add, ← EReal.coe_neg, ← coe_sum,
    EReal.coe_lt_coe_iff, hc]
  constructor <;> intro h <;> linarith

/-- A residual with an infinite component has infinite squared length. -/
theorem square_top {r : Tok} (hr : ¬Fin1 r) : ∑ x, r x * r x = ⊤ := by
  obtain ⟨d, hd⟩ := not_forall.mp hr
  have nonneg : ∀ x, 0 ≤ r x * r x := fun x => by
    induction r x using EReal.rec with
    | bot => simp
    | top => simp
    | coe y => rw [← EReal.coe_mul]; exact EReal.coe_nonneg.mpr (mul_self_nonneg y)
  have top : r d * r d = ⊤ := by
    generalize r d = y at hd
    induction y using EReal.rec with
    | bot => simp
    | top => simp
    | coe y => exact absurd ⟨y, rfl⟩ hd
  exact top_le_iff.mp (top ▸ Finset.single_le_sum (f := fun x => r x * r x) (fun x _ => nonneg x) (Finset.mem_univ d))

/-- If the reference's value of one entry is above another's, the kernel's is below it, whatever the residual: of one with
    an infinite component the reference's values are infinite, above only where the product with the entry is. -/
theorem score_lt {e : Book} {r : Tok} (he : Fin2 e) {k i : Fin 1024} (h : dist e r k < dist e r i) : score e e r i < score e e r k := by
  by_cases hr : Fin1 r
  · exact (dist_lt_iff he hr k i).mp h
  choose e' he' using he
  obtain rfl : e = fun k d => (e' k d : EReal) := funext fun k => funext fun d => he' k d
  have hc : ∀ k, ∑ x, (e' k x : EReal) * r x = ∑ x, r x * e' k x := fun k => Finset.sum_congr rfl fun x _ => mul_comm _ _
  simp only [dist, score, ofBits_half, square_top hr, hc, ← EReal.coe_mul, ← coe_sum] at h ⊢
  generalize ∑ x, r x * (e' k x : EReal) = p at *
  generalize ∑ x, r x * (e' i x : EReal) = q at *
  have t2 : (2 : EReal) * ⊤ = ⊤ := EReal.mul_top_of_pos (by norm_num)
  have b2 : (2 : EReal) * ⊥ = ⊥ := EReal.mul_bot_of_pos (by norm_num)
  have c2 : ∀ y : ℝ, (2 : EReal) * y = ((2 * y : ℝ) : EReal) := fun y => by rw [EReal.coe_mul]; norm_cast
  induction q using EReal.rec <;> induction p using EReal.rec <;>
    simp [t2, b2, c2, -EReal.coe_mul] at h ⊢
  rw [← EReal.coe_sub]; exact EReal.bot_lt_coe _

/-! ## The kernel chooses the nearest entry -/

/-- A value strictly below every other is the least, and the only one marked. -/
theorem mark_eq {s : PerEntry} {i : Fin 1024} (h : ∀ k, k ≠ i → s i < s k) (k : Fin 1024) : mark s k = if k = i then 1 else 0 := by
  have hm : Finset.univ.fold min (⊤ : EReal) s = s i := by
    refine le_antisymm ?_ ?_
    · exact (Finset.fold_min_le _).mpr (Or.inr ⟨i, Finset.mem_univ i, le_rfl⟩)
    · refine Finset.le_fold_min _ |>.mpr ⟨le_top, fun k _ => ?_⟩
      by_cases hk : k = i
      · rw [hk]
      · exact (h k hk).le
  rw [mark, ofBits_top, hm]
  by_cases hk : k = i
  · simp [hk]
  · simp [hk, (h k hk).ne']

/-- Of a finite codebook with entry `i` the one nearest, the kernel marks `i`. -/
theorem mark_score {e : Book} {r : Tok} (he : Fin2 e) {i : Fin 1024} (hi : Nearest e r i) (k : Fin 1024) :
    mark (score e e r) k = if k = i then 1 else 0 :=
  mark_eq (fun k hk => score_lt he (hi k hk)) k

/-- A sum against the mark is the marked entry's value. -/
theorem sum_mark {m : PerEntry} {i : Fin 1024} (hm : ∀ k, m k = if k = i then 1 else 0) (f : PerEntry) : ∑ k, f k * m k = f i := by
  simp [hm]

/-- The digits of the marked index make the index. -/
theorem code_eq {t0 t1 m : PerEntry} {i : Fin 1024} (hm : ∀ k, m k = if k = i then 1 else 0)
    (h0 : ∀ k, t0 k = ((k.val / 256 : ℕ) : ℝ)) (h1 : ∀ k, t1 k = ((k.val % 256 : ℕ) : ℝ)) : code t0 t1 m = BitVec.ofNat 32 i.val := by
  rw [code, sum_mark hm, sum_mark hm, h0, h1, ofBits_256, ← EReal.coe_mul, ← EReal.coe_add, Ideal.fptosi, Ideal.toIntClamped_coe]
  have e : ((i.val / 256 : ℕ) : ℝ) * 256 + ((i.val % 256 : ℕ) : ℝ) = ((i.val : ℤ) : ℝ) := by
    have := Nat.div_add_mod i.val 256
    rw [show ((i.val : ℤ) : ℝ) = ((256 * (i.val / 256) + i.val % 256 : ℕ) : ℝ) by rw [this]; simp]
    push_cast; ring
  have hi := i.isLt
  rw [e, if_pos (by positivity), Int.floor_intCast]
  have : max (-((2 ^ (32 - 1) : ℕ) : ℤ)) (min (((2 ^ (32 - 1) : ℕ) : ℤ) - 1) (i.val : ℤ)) = (i.val : ℤ) := by
    have h : ((2 ^ (32 - 1) : ℕ) : ℤ) = 2147483648 := by norm_num
    rw [h]; omega
  rw [this]; simp

/-- The residual less the marked entry, the second and third parts of the table being zero. -/
theorem next_eq {l : Fin 384 → PerEntry} {m : PerEntry} {e : Book} {r : Tok} {i : Fin 1024} (hm : ∀ k, m k = if k = i then 1 else 0)
    (h0 : ∀ (d : Fin 128) k, l ⟨d.val, by omega⟩ k = e k d) (h1 : ∀ (d : Fin 128) k, l ⟨128 + d.val, by omega⟩ k = 0)
    (h2 : ∀ (d : Fin 128) k, l ⟨256 + d.val, by omega⟩ k = 0) : next l m r = less e r i := by
  funext d
  rw [next, sum_mark hm, sum_mark hm, sum_mark hm, h0, h1, h2, add_zero, add_zero, less]

/-! ## What the precondition's flags say -/

/-- If every entry's value is below the greatest one or the entry is the one named `w`, then `w` names the one nearest
    entry. -/
theorem nearest_of_flags {e : Book} {r : Tok} {w : BitVec 32}
    (h : ∀ k : Fin 1024, dist e r k < Finset.univ.fold max ⊥ (dist e r) ∨ BitVec.ofNat 32 k.val = w) :
    ∃ i : Fin 1024, w = BitVec.ofNat 32 i.val ∧ Nearest e r i := by
  obtain ⟨i, -, hi⟩ := Finset.exists_max_image (Finset.univ : Finset (Fin 1024)) (dist e r) ⟨0, Finset.mem_univ _⟩
  have hm : Finset.univ.fold max ⊥ (dist e r) = dist e r i := by
    refine le_antisymm ?_ ?_
    · exact Finset.fold_max_le _ |>.mpr ⟨bot_le, hi⟩
    · exact (Finset.le_fold_max _).mpr (Or.inr ⟨i, Finset.mem_univ i, le_rfl⟩)
  rw [hm] at h
  have hw : BitVec.ofNat 32 i.val = w := (h i).resolve_left (lt_irrefl _)
  refine ⟨i, hw.symm, fun k hk => (h k).resolve_right fun hkw => hk ?_⟩
  have := congrArg BitVec.toNat (hkw.trans hw.symm)
  have hk' := k.isLt
  have hi' := i.isLt
  simp only [BitVec.toNat_ofNat] at this
  exact Fin.ext (by omega)

end Cert.Token

end
-- ==== Proof.Column.lean ====
/-
  The kernel's vector operations read at one token, over the extended reals: what each entry of a stage's score, mark,
  code and residual is, as a formula in the token's own column.
-/
module

public import proofs.«01_k».proof.Proof.Block
public import proofs.«01_k».proof.Proof.Token
public import Idealize.ShloMosaic.Lib.Pointwise
public import Idealize.ShloMosaic.PureOps.Ideal.Laws

@[expose] public section

noncomputable section

namespace Cert.KernelIdeal.Block

open Cert.KernelIdeal Cert.KernelIdeal.Gen Cert.KernelIdeal.Run
open Idealize.ShloMosaic
open Idealize.ShloMosaic.TcCoe
open Idealize.ShloMosaic.View (ld)

/-- A stage's codebook as entries, a stage's three parts as rows, a token's column of a vector, a row of the digits' table. -/
abbrev entries {e : EltTy} (C : (⟨3, ![1, 1024, 128]⟩ : Shape).Idx → Elt Ideal e) : Fin 1024 → Fin 128 → Elt Ideal e := fun k d => C (ix3 0 k d)
abbrev parts {e : EltTy} (L : (⟨3, ![1, 384, 1024]⟩ : Shape).Idx → Elt Ideal e) : Fin 384 → Fin 1024 → Elt Ideal e := fun d k => L (ix3 0 d k)
abbrev column {e : EltTy} (r : (⟨2, ![128, 512]⟩ : Shape).Idx → Elt Ideal e) (j : Fin 512) : Fin 128 → Elt Ideal e := fun d => r (ix2 d j)

/-- The scores' table, read at an entry and a token. -/
theorem score_apply (C : Vec Ideal S1x1024x128 .f32) (B : Vec Ideal S1x1024x128 .bf16) (r : FVec Ideal S128x512 .f32) (k : Fin 1024) (j : Fin 512) :
    score C B r (ix2 k j) = Token.score (entries (e := .f32) C) (entries (e := .bf16) B) (column (e := .f32) r j) k := by
  pointwise [score, halfSq]
  rfl

/-- The marks' table, read at an entry and a token. -/
theorem hot_apply (C : Vec Ideal S1x1024x128 .f32) (B : Vec Ideal S1x1024x128 .bf16) (r : FVec Ideal S128x512 .f32) (k : Fin 1024) (j : Fin 512) :
    hot C B r (ix2 k j) = Token.mark (Token.score (entries (e := .f32) C) (entries (e := .bf16) B) (column (e := .f32) r j)) k := by
  pointwise [hot]
  simp only [score_apply]
  unfold Token.mark
  split <;> rename_i h <;> simp only [h, decide_true, decide_false] <;> simp [FloatOps.sitofp]

/-- The row of codes, read at a token. -/
theorem code_apply (T : Vec Ideal S8x1024 .bf16) (h : FVec Ideal S1024x512 .bf16) (j : Fin 512) :
    code T h (ix2 0 j) = Token.code (fun k => T (ix2 0 k)) (fun k => T (ix2 1 k)) (fun k => h (ix2 k j)) := by
  pointwise [code]
  rfl

/-- The next residuals, read at a token's component. -/
theorem next_apply (L : Vec Ideal S1x384x1024 .bf16) (h : FVec Ideal S1024x512 .bf16) (r : FVec Ideal S128x512 .f32) (d : Fin 128) (j : Fin 512) :
    next L h r (ix2 d j) = Token.next (parts (e := .bf16) L) (fun k => h (ix2 k j)) (column (e := .f32) r j) d := by
  pointwise [next]
  rfl

/-- A chain starts at its own 512 tokens, turned over. -/
theorem start_apply (I : Inputs Ideal) (h : Fin 4) (d : Fin 128) (j : Fin 512) : I.start h (ix2 d j) = I.x (ix2 ⟨512 * h.val + j.val, by omega⟩ d) := by
  pointwise [Inputs.start]

/-- A stage's codebook, read at an entry's component, -/
theorem cbAt_apply (I : Inputs Ideal) (s : Fin 8) (k : Fin 1024) (d : Fin 128) : I.cbAt s (ix3 0 k d) = I.cb (ix3 s k d) := by
  pointwise [Inputs.cbAt]

/-- the narrowed one, -/
theorem cbbAt_apply (I : Inputs Ideal) (s : Fin 8) (k : Fin 1024) (d : Fin 128) : I.cbbAt s (ix3 0 k d) = I.cbb (ix3 s k d) := by
  pointwise [Inputs.cbbAt]

/-- its three parts -/
theorem cb3At_apply (I : Inputs Ideal) (s : Fin 8) (d : Fin 384) (k : Fin 1024) : I.cb3At s (ix3 0 d k) = I.cb3 (ix3 s d k) := by
  pointwise [Inputs.cb3At]

/-- and the table of digits. -/
theorem tabAll_apply (I : Inputs Ideal) (a : Fin 8) (k : Fin 1024) : I.tabAll (ix2 a k) = I.tab (ix2 a k) := by
  pointwise [Inputs.tabAll]

/-- A chain's table of codes, read at a stage and a token. -/
theorem chain_apply (I : Inputs Ideal) (s : Fin 8) (h : Fin 4) (j : Fin 512) : I.chain h (ix2 s j) = I.codeAt h s.val (ix2 0 j) := by
  fin_cases s <;> pointwise [Inputs.chain]

/-- The block, read at a stage and a chain's token. -/
theorem block_apply (I : Inputs Ideal) (s : Fin 8) (h : Fin 4) (j : Fin 512) :
    I.block (ix2 s ⟨512 * h.val + j.val, by omega⟩) = I.chain h (ix2 s j) := by
  have key : ∀ {a b : Fin 512}, a.val = b.val → ∀ g : Fin 4, I.chain g (ix2 s a) = I.chain g (ix2 s b) := fun h g => by rw [Fin.ext h]
  fin_cases h <;> pointwise [Inputs.block]
  · rw [dif_neg (by omega), dif_neg (by omega), dif_pos (by omega)]; exact key (by simp; omega) 2
  · rw [dif_neg (by omega), dif_neg (by omega), dif_neg (by omega)]; exact key (by simp; omega) 3

/-! ## A block's column is its token's -/

namespace Inputs

variable (I : Inputs Ideal)

/-- The mark of a stage on a token's residual `r`. -/
def tokMark (s : Fin 8) (r : Token.Tok) : Token.PerEntry := Token.mark (Token.score (fun k d => I.cb (ix3 s k d)) (fun k d => I.cbb (ix3 s k d)) r)

/-- A token's residual before each stage, from the token. -/
def tokResid (x : Token.Tok) : ℕ → Token.Tok
  | 0 => x
  | s + 1 => Token.next (fun d k => I.cb3 (ix3 (Fin.ofNat 8 s) d k)) (I.tokMark (Fin.ofNat 8 s) (tokResid x s)) (tokResid x s)

/-- A token's code at a stage. -/
def tokCode (x : Token.Tok) (s : ℕ) : BitVec 32 :=
  Token.code (fun k => I.tab (ix2 0 k)) (fun k => I.tab (ix2 1 k)) (I.tokMark (Fin.ofNat 8 s) (I.tokResid x s))

end Inputs

/-- The marks of a token depend on its own residual only. -/
theorem hot_at (I : Inputs Ideal) (s : Fin 8) (r : FVec Ideal S128x512 .f32) (k : Fin 1024) (j : Fin 512) :
    hot (I.cbAt s) (I.cbbAt s) r (ix2 k j) = I.tokMark s (column (e := .f32) r j) k := by
  rw [hot_apply]
  unfold Inputs.tokMark
  congr 2
  · funext k d; exact cbAt_apply I s k d
  · funext k d; exact cbbAt_apply I s k d

/-- A chain's residual, read at one token, is the token's. -/
theorem resid_apply (I : Inputs Ideal) (h : Fin 4) (j : Fin 512) : ∀ (s : ℕ) (d : Fin 128),
    I.resid h s (ix2 d j) = I.tokResid (fun d => I.x (ix2 ⟨512 * h.val + j.val, by omega⟩ d)) s d
  | 0, d => start_apply I h d j
  | s + 1, d => by
    rw [Inputs.resid, Inputs.stage, next_apply, Inputs.tokResid]
    have hc : column (e := .f32) (I.resid h s) j = I.tokResid (fun d => I.x (ix2 ⟨512 * h.val + j.val, by omega⟩ d)) s :=
      funext fun d => resid_apply I h j s d
    rw [hc, show (fun k => hot (I.cbAt (Fin.ofNat 8 s)) (I.cbbAt (Fin.ofNat 8 s)) (I.resid h s) (ix2 k j))
        = I.tokMark (Fin.ofNat 8 s) (I.tokResid (fun d => I.x (ix2 ⟨512 * h.val + j.val, by omega⟩ d)) s) from
      funext fun k => by rw [hot_at, hc]]
    congr 1
    funext d k; exact cb3At_apply I (Fin.ofNat 8 s) d k

/-- A chain's code, read at one token, is the token's. -/
theorem codeAt_apply (I : Inputs Ideal) (h : Fin 4) (s : ℕ) (j : Fin 512) :
    I.codeAt h s (ix2 0 j) = I.tokCode (fun d => I.x (ix2 ⟨512 * h.val + j.val, by omega⟩ d)) s := by
  rw [Inputs.codeAt, Inputs.codeOf, code_apply, Inputs.tokCode]
  have hc : column (e := .f32) (I.resid h s) j = I.tokResid (fun d => I.x (ix2 ⟨512 * h.val + j.val, by omega⟩ d)) s :=
    funext fun d => resid_apply I h j s d
  congr 1
  · funext k; exact tabAll_apply I 0 k
  · funext k; exact tabAll_apply I 1 k
  · funext k; rw [hot_at, hc]

/-- The block's entry for stage `s` and row `n` is the code of row `n`'s token: it depends on no other row. -/
theorem block_token (I : Inputs Ideal) (s : Fin 8) (n : Fin 2048) : I.block (ix2 s n) = I.tokCode (fun d => I.x (ix2 n d)) s.val := by
  have e : n = ⟨512 * (n.val / 512) + n.val % 512, by omega⟩ := Fin.ext (by simp only; omega)
  have := (block_apply I s ⟨n.val / 512, by omega⟩ ⟨n.val % 512, by omega⟩).trans
    ((chain_apply I s _ _).trans (codeAt_apply I _ s.val _))
  simp only [← e] at this
  exact this

end Cert.KernelIdeal.Block

end
-- ==== Proof.FrameIdeal.lean ====
/-
  The run of the kernel over the extended reals: every execution ends with the arguments as launched, every counter at zero,
  and the result's buffer at the blocks the twelve points leave. A block's column depends on its own token only, so the rows
  past the end of the last block do not matter.
-/
module

public import proofs.«01_k».proof.Proof.BlockRun
public import proofs.«01_k».proof.Proof.Column
public import proofs.«01_k».proof.Proof.Gen.KernelIdeal.Frame
public import Idealize.ShloMosaic.Lib.VecWindow

@[expose] public section

noncomputable section

namespace Cert.KernelIdeal.FrameRun

open Cert.KernelIdeal Cert.KernelIdeal.Gen Cert.KernelIdeal.Run Cert.KernelIdeal.Block

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The body on owned buffers -/

/-- A whole memref owned at `X` is its buffer held at some contents that read `X`. -/
theorem owns_holds (c : Dev nD) {sp : Space} {S : Shape} {e : EltTy} {M : Memref sig .tc sp S e} (h : M.IsWhole) (X : S.Idx → Elt Ideal e) :
    (owns (c : Thread nD τ) M fullShare X : sProp 𝕄) = iprop(∃ f : Held (F := Ideal) c M, ⌜M.view.read (Elt Ideal) f = X⌝ ∗ holds c M f) := by
  unfold owns; rw [h.set_eq_univ]

/-- The body run on six owned buffers: the five inputs come back as they were, the result's buffer at their block. -/
theorem body_owns (c : Dev nD) (E : Set ℕ) (i : grid0.Coords)
    (M0 : Memref sig .tc .vmem S2048x128 .f32) (h0 : M0.IsWhole) (M1 : Memref sig .tc .vmem S8x1024x128 .f32) (h1 : M1.IsWhole)
    (M2 : Memref sig .tc .vmem S8x1024x128 .bf16) (h2 : M2.IsWhole) (M3 : Memref sig .tc .vmem S8x384x1024 .bf16) (h3 : M3.IsWhole)
    (M4 : Memref sig .tc .vmem S8x1024 .bf16) (h4 : M4.IsWhole) (M5 : Memref sig .tc .vmem S8x2048 .i32) (h5 : M5.IsWhole)
    (X0 : S2048x128.Idx → Elt Ideal .f32) (X1 : S8x1024x128.Idx → Elt Ideal .f32) (X2 : S8x1024x128.Idx → Elt Ideal .bf16)
    (X3 : S8x384x1024.Idx → Elt Ideal .bf16) (X4 : S8x1024.Idx → Elt Ideal .bf16) (X5 : S8x2048.Idx → Elt Ideal .i32) (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5)
          ∗ (iprop(owns (c : Thread nD τ) M0 fullShare X0 ∗ owns (c : Thread nD τ) M1 fullShare X1 ∗ owns (c : Thread nD τ) M2 fullShare X2
                  ∗ owns (c : Thread nD τ) M3 fullShare X3 ∗ owns (c : Thread nD τ) M4 fullShare X4 ∗ owns (c : Thread nD τ) M5 fullShare (Inputs.block ⟨X0, X1, X2, X3, X4⟩)) -∗ K ⟨⟩))
      ⊢ wp frame (wpE (defs₀ (F := Ideal)) Variants.none c none) E (cc0__rvq_block i M0 h0 M1 h1 M2 h2 M3 h3 M4 h4 M5 h5) K := by
  simp only [owns_holds c h0, owns_holds c h1, owns_holds c h2, owns_holds c h3, owns_holds c h4, owns_holds c h5]
  iintro ⟨⟨⟨%f0, %e0, H0⟩, ⟨%f1, %e1, H1⟩, ⟨%f2, %e2, H2⟩, ⟨%f3, %e3, H3⟩, ⟨%f4, %e4, H4⟩, ⟨%f5, %e5, H5⟩⟩, Hk⟩
  have hv := run_eq c i M0 h0 M1 h1 M2 h2 M3 h3 M4 h4 M5 h5 f0 f1 f2 f3 f4
  rw [show inputs c M0 M1 M2 M3 M4 f0 f1 f2 f3 f4 = ⟨X0, X1, X2, X3, X4⟩ by unfold inputs; rw [e0, e1, e2, e3, e4]] at hv
  rw [← hv]
  clear hv
  obtain ⟨W, hW⟩ := bodyRun c i M0 h0 M1 h1 M2 h2 M3 h3 M4 h4 M5 h5 f0 f1 f2 f3 f4
  iapply (hW f5 E K)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  · iexists (M5.view.writes (Elt Ideal) f5 [⟨Rect.unit (s := S8x2048) ![0, 0] S8x2048.size inb_S8x2048_S8x2048_0_0, W⟩])
    isplitr; · ipureintro; exact View.read_writes_full _ _ _ _ _
    iexact H5

/-! ## The proof data: the inputs at their blocks, the result's block computed from them -/

/-- Zero rows, to fill out the first window's last block. -/
def zeroRows : S2048x128.Idx → Elt Ideal .f32 := fun _ => FloatOps.ofBits (F := Ideal) .f32 0#32

/-- What the five inputs' buffers hold at a point, the first one's rows past its array's end being `d`'s. -/
def pointIn (c : Dev nD) (t : Fin cfg0.N) (d : S2048x128.Idx → Elt Ideal .f32) : Inputs Ideal :=
  ⟨win0_0.fill (grid0.coords t) d (iblk m c 0 t), iblk m c 1 t, iblk m c 2 t, iblk m c 3 t, iblk m c 4 t⟩

/-- The transfers of the first window and of the result's move as many tokens at a point. -/
theorem moved_alike : ∀ t : Fin grid0.N, win0_5.xsize (grid0.coords t) 1 = win0_0.xsize (grid0.coords t) 0
    ∧ win0_0.xsize (grid0.coords t) 1 = 128 := by decide +kernel

/-- A chain's residuals depend on the first input only through the token given. -/
theorem tokResid_congr (I J : Inputs Ideal) (h1 : I.cb = J.cb) (h2 : I.cbb = J.cbb) (h3 : I.cb3 = J.cb3) (x : Token.Tok) :
    ∀ s, I.tokResid x s = J.tokResid x s
  | 0 => rfl
  | s + 1 => by
    rw [Inputs.tokResid, Inputs.tokResid, tokResid_congr I J h1 h2 h3 x s]
    unfold Inputs.tokMark; rw [h1, h2, h3]

/-- So do the codes. -/
theorem tokCode_congr (I J : Inputs Ideal) (h1 : I.cb = J.cb) (h2 : I.cbb = J.cbb) (h3 : I.cb3 = J.cb3) (h4 : I.tab = J.tab)
    (x : Token.Tok) (s : ℕ) : I.tokCode x s = J.tokCode x s := by
  unfold Inputs.tokCode Inputs.tokMark
  rw [tokResid_congr I J h1 h2 h3, h1, h2, h4]

/-- A row inside the array is the same whatever fills the rest. -/
theorem row_alike (c : Dev nD) (t : Fin cfg0.N) (d d' : S2048x128.Idx → Elt Ideal .f32) (n : Fin 2048)
    (hn : n.val < win0_0.xsize (grid0.coords t) 0) (k : Fin 128) : (pointIn m c t d).x (ix2 n k) = (pointIn m c t d').x (ix2 n k) := by
  have hm : win0_0.moved (grid0.coords t) (ix2 n k) = true := by
    refine (win0_0.moved_iff _ _).mpr fun a => ?_
    fin_cases a
    · exact hn
    · exact lt_of_lt_of_eq k.isLt (moved_alike t).2.symm
  show win0_0.fill _ d _ _ = win0_0.fill _ d' _ _
  unfold Window.fill
  rw [dif_pos hm, dif_pos hm]

/-- So is the code of a token inside the array. -/
theorem block_alike (c : Dev nD) (t : Fin cfg0.N) (d d' : S2048x128.Idx → Elt Ideal .f32) (s : Fin 8) (n : Fin 2048)
    (hn : n.val < win0_0.xsize (grid0.coords t) 0) : (pointIn m c t d).block (ix2 s n) = (pointIn m c t d').block (ix2 s n) := by
  rw [block_token, block_token, tokCode_congr (pointIn m c t d) (pointIn m c t d') rfl rfl rfl rfl,
    funext fun k => row_alike m c t d d' n hn k]

/-- The place in the block of what is written back. -/
theorem put_at (t : Fin cfg0.N) (j : (win0_5.xblock (grid0.coords t)).Idx) : ∃ (s : Fin 8) (n : Fin 2048),
    win0_5.xinj (grid0.coords t) j = ix2 s n ∧ s.val = (j 0).val ∧ n.val = (j 1).val ∧ n.val < win0_0.xsize (grid0.coords t) 0 :=
  ⟨⟨(j 0).val, lt_of_lt_of_le (j 0).isLt (win0_5.xsize_le (grid0.coords t) 0)⟩,
    ⟨(j 1).val, lt_of_lt_of_le (j 1).isLt (win0_5.xsize_le (grid0.coords t) 1)⟩,
    funext fun a => by fin_cases a <;> rfl, rfl, rfl, lt_of_lt_of_eq (j 1).isLt (moved_alike t).1⟩

/-- The part of the result's block that is written back does not depend on the rows past the array's end. -/
theorem cut_block (c : Dev nD) (t : Fin cfg0.N) (d d' : S2048x128.Idx → Elt Ideal .f32) :
    win0_5.cut (α := Elt Ideal .i32) (grid0.coords t) (pointIn m c t d).block
      = win0_5.cut (α := Elt Ideal .i32) (grid0.coords t) (pointIn m c t d').block :=
  funext fun j => by
    obtain ⟨s, n, e, -, -, hn⟩ := put_at t j
    exact (congrArg _ e).trans ((block_alike m c t d d' s n hn).trans (congrArg _ e.symm))

/-- After the body at a point every input's buffer holds its block; the first window's, whose last block overhangs its
    array, is filled out by the zero word, which nothing reads. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) zeroRows (iblk m c 0 t)
    | ⟨1, _⟩ => iblk m c 1 t
    | ⟨2, _⟩ => iblk m c 2 t
    | ⟨3, _⟩ => iblk m c 3 t
    | ⟨4, _⟩ => iblk m c 4 t
    | ⟨5, _⟩ => (pointIn m c t zeroRows).block
  Φ _ := Pipeline.ΦA spec0 c
  q _ := fullShare
  owed _ := 0

/-- The first window's buffer just fetched: the block on the rows inside the array, anything elsewhere. -/
theorem before_0 (c : Dev nD) (t : Fin cfg0.N) (d) :
    (dats m 0 c).before (0 : Fin 6) t d = win0_0.fill (grid0.coords t) d (iblk m c 0 t) := by
  unfold Dat.before; rw [if_pos (fetch0_0 t)]; rfl

/-- Window 1's buffer after the body: its block still. -/
theorem after_1 (c : Dev nD) (t : Fin cfg0.N) : (dats m 0 c).after 1 t = iblk m c 1 t := by unfold dats; dsimp only

/-- Window 1's buffer holds its block at every point. -/
theorem before_1 (c : Dev nD) (t : Fin cfg0.N) (d) : (dats m 0 c).before (1 : Fin 6) t d = iblk m c 1 t :=
  before0_1_of m (dats m 0 c) rfl (after_1 m c) t d

/-- Window 2's buffer after the body: its block still. -/
theorem after_2 (c : Dev nD) (t : Fin cfg0.N) : (dats m 0 c).after 2 t = iblk m c 2 t := by unfold dats; dsimp only

/-- Window 2's buffer holds its block at every point. -/
theorem before_2 (c : Dev nD) (t : Fin cfg0.N) (d) : (dats m 0 c).before (2 : Fin 6) t d = iblk m c 2 t :=
  before0_2_of m (dats m 0 c) rfl (after_2 m c) t d

/-- Window 3's buffer after the body: its block still. -/
theorem after_3 (c : Dev nD) (t : Fin cfg0.N) : (dats m 0 c).after 3 t = iblk m c 3 t := by unfold dats; dsimp only

/-- Window 3's buffer holds its block at every point. -/
theorem before_3 (c : Dev nD) (t : Fin cfg0.N) (d) : (dats m 0 c).before (3 : Fin 6) t d = iblk m c 3 t :=
  before0_3_of m (dats m 0 c) rfl (after_3 m c) t d

/-- Window 4's buffer after the body: its block still. -/
theorem after_4 (c : Dev nD) (t : Fin cfg0.N) : (dats m 0 c).after 4 t = iblk m c 4 t := by unfold dats; dsimp only

/-- Window 4's buffer holds its block at every point. -/
theorem before_4 (c : Dev nD) (t : Fin cfg0.N) (d) : (dats m 0 c).before (4 : Fin 6) t d = iblk m c 4 t :=
  before0_4_of m (dats m 0 c) rfl (after_4 m c) t d

/-- The first window's buffer after the body: its block, filled out. -/
theorem after_0 (c : Dev nD) (t : Fin cfg0.N) : (dats m 0 c).after 0 t
    = win0_0.fill (grid0.coords t) zeroRows (iblk m c 0 t) := by unfold dats; dsimp only

/-- The result's window is never fetched. -/
theorem fetch_5 : ∀ t : Fin cfg0.N, (cfg0.win (5 : Fin 6)).fetch t = false :=
  (by decide +kernel : ∀ t : Fin grid0.N, win0_5.fetch t = false)

/-- The result's buffer before the body: contents nothing names. -/
theorem before_5 (c : Dev nD) (t : Fin cfg0.N) (d) : (dats m 0 c).before (5 : Fin 6) t d = d := by
  unfold Dat.before
  rw [if_neg (by rw [fetch_5 t]; exact Bool.false_ne_true)]
  by_cases h : t.val = 0
  · exact if_pos h
  · rw [if_neg h]; exact if_pos (flush0_5 _)

/-- The result's buffer after the body: the block of the inputs. -/
theorem after_5 (c : Dev nD) (t : Fin cfg0.N) : (dats m 0 c).after 5 t
    = (pointIn m c t zeroRows).block := by unfold dats; dsimp only

set_option maxHeartbeats 1000000 in
/-- The body meets its obligation at every point. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5,
    after_0 m c t, after_1 m c t, after_2 m c t, after_3 m c t, after_4 m c t, after_5 m c t]
  iapply (body_owns c Set.univ (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) (st0_3 t)
    (hstage0_3 ((cfg0.slots t 3).cast nbuf0_3)) (st0_4 t) (hstage0_4 ((cfg0.slots t 4).cast nbuf0_4)) (st0_5 t)
    (hstage0_5 ((cfg0.slots t 5).cast nbuf0_5)) (win0_0.fill (grid0.coords t) d0 (iblk m c 0 t)) (iblk m c 1 t) (iblk m c 2 t) (iblk m c 3 t)
    (iblk m c 4 t) d5 _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  have hx : win0_0.cut (grid0.coords t) (win0_0.fill (grid0.coords t) zeroRows (iblk m c 0 t)) = iblk m c 0 t :=
    win0_0.cut_fill _ _ _
  isplitl [H0]
  · iexists d0
    change _ ⊢ owns (c : Thread nD τ) (st0_0 t) fullShare (win0_0.fill (grid0.coords t) d0
      (win0_0.cut (grid0.coords t) (win0_0.fill (grid0.coords t) zeroRows (iblk m c 0 t))))
    rw [hx]; try iexact H0
  isplitl [H1]; · iexact H1
  isplitl [H2]; · iexact H2
  isplitl [H3]; · iexact H3
  isplitl [H4]; · iexact H4
  iexists (pointIn m c t d0).block
  change _ ⊢ owns (c : Thread nD τ) (st0_5 t) fullShare (win0_5.fill (grid0.coords t) (pointIn m c t d0).block
    (win0_5.cut (α := Elt Ideal .i32) (grid0.coords t) (pointIn m c t zeroRows).block))
  rw [win0_5.fill_congr_cut _ (cut_block m c t _ _), pointIn]

/-! ## The run -/

/-- What the host's buffers hold at the end: the twelve points' blocks in the region's result, and the last host line over it. -/
abbrev ended (c : Dev nD) (b : Ref sig .tc) : Buf (Elt Ideal) ((c : Thread nD τ).loc b) :=
  Pipeline.afterTail₀ cfgs (dats m) 0 (V0 m) [hostOps1] c b

/-- Every execution ends: the result at its final contents, the arguments as launched and every counter at zero. -/
theorem run : θ_run defs (onTc (τ := τ) (main (F := Ideal))) (s₀ m ρ) (fun r =>
    (∀ c : Dev nD, r.2.mem ((c : Thread nD τ).loc main_v42) = ended m c main_v42
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_frame_around cfgs (dats m) 0 launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)
    (Q' := fun r => (∀ c : Dev nD, r.2.mem ((c : Thread nD τ).loc main_v42) = ended m c main_v42
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0)
    (hQ' := fun r h => ⟨fun c =>
      ⟨(h.1 c).2 main_v42 (Pipeline.mem_restRefs_of main_v42 (by decide) (by decide)),
        ((h.1 c).2 main_arg0 (Pipeline.mem_restRefs_of main_arg0 (by decide) (by decide))).trans (W_main_arg0 m (dats m) c),
        ((h.1 c).1 1).trans (((dats m 0 c).arrAt_in 1 rfl _).trans (V_main_arg1 m c))⟩, h.2⟩)

end Cert.KernelIdeal.FrameRun

end
-- ==== Proof.HostIdeal.lean ====
/-
  What the five input arrays of the kernel's region hold over the extended reals, read at an index from the host lines before
  it: the tokens in one row of 24000, the codebooks as they are (a narrowing is the identity there), the codebooks' three parts,
  whose second and third are zero on real numbers, and the table of the entries' digits to base 256.
-/
module

public import proofs.«01_k».proof.Proof.FrameIdeal
public import proofs.«01_k».proof.Proof.Token
public import Idealize.ShloMosaic.Lib.StableHlo.ReadAt
public import Idealize.ShloMosaic.Lib.Routing.OpsSet

@[expose] public section

noncomputable section

namespace Cert.KernelIdeal.FrameRun

open Cert.KernelIdeal Cert.KernelIdeal.Gen
open Idealize.ShloMosaic Idealize.ShloMosaic.TcCoe
open Idealize.ShloMosaic.StableHlo

/-- An entry put down one row lands there. -/
theorem lands_row (idx : IVec S1 32) (R : Fin 8) (hidx : (idx (ix1 (0 : Fin 1))).toInt = (R.val : Int)) (k' : Fin 1024) (r : Fin 8) (k : Fin 1024) :
    scatter_S8x1024_S1_S1024_0_0_0_0.resultIdx? (ix1 k') idx = some (ix2 r k) ↔ r = R ∧ k' = k := by
  set d := scatter_S8x1024_S1_S1024_0_0_0_0
  have w0 : d.window (ix1 k') (0 : Fin 2) = 0 := rfl
  have w1 : d.window (ix1 k') (1 : Fin 2) = k'.val := rfl
  have s1 : d.start (ix1 k') idx (1 : Fin 2) = 0 := rfl
  have s0 : d.start (ix1 k') idx (0 : Fin 2) = (R.val : Int) := by
    unfold ScatterDims.start
    rw [dif_pos (show (0 : Fin 2) ∈ d.scatterDimsToOperandDims from List.mem_singleton.2 rfl)]
    have hsi : d.siIdx (ix1 k') ⟨d.scatterDimsToOperandDims.idxOf (0 : Fin 2), List.idxOf_lt_length_iff.2 (List.mem_singleton.2 rfl)⟩ = ix1 (0 : Fin 1) := by
      funext b
      match b with
      | ⟨0, _⟩ => exact Subsingleton.elim (α := Fin 1) _ _
    exact (congrArg (fun q => (idx q).toInt) hsi).trans hidx
  refine Iff.trans (Routing.resultIdx?_ix2 (R := 8) (C := 1024) d (ix1 k') idx r k) ?_
  rw [Fin.ext_iff, Fin.ext_iff, s0, w0, s1, w1]
  omega

/-- A row put into a table, read at an entry. -/
theorem scatter_row {α : Type} (x : S8x1024.Idx → α) (idx : IVec S1 32) (upd : S1024.Idx → α) (R : Fin 8)
    (hidx : (idx (ix1 (0 : Fin 1))).toInt = (R.val : Int)) (r : Fin 8) (k : Fin 1024) :
    Host.scatter scatter_S8x1024_S1_S1024_0_0_0_0 (fun _ b => b) x idx upd (ix2 r k) = if r = R then upd (ix1 k) else x (ix2 r k) := by
  have lands : ∀ j : S1024.Idx, scatter_S8x1024_S1_S1024_0_0_0_0.resultIdx? j idx = some (ix2 r k) → r = R ∧ j = ix1 k := fun j hj => by
    have h := (lands_row idx R hidx (j 0) r k).1 ((congrArg (fun t => ScatterDims.resultIdx? _ t idx) (eq_ix1 j).symm).trans hj)
    exact ⟨h.1, (eq_ix1 j).trans (congrArg ix1 h.2)⟩
  by_cases h : r = R
  · rw [if_pos h]
    exact Routing.scatter_set_hit _ x idx upd _ _ (fun j hj => congrArg upd (lands j hj).2) (ix1 k) ((lands_row idx R hidx k r k).2 ⟨h, rfl⟩)
  · rw [if_neg h]
    exact Routing.scatter_set_miss _ x idx upd _ fun j hj => h (lands j hj).1

/-- An entry's number moved right by eight places is its high digit, -/
theorem high_word (k : Fin 1024) :
    (Host.shrsi (iotaInDim S1024 32 0) (broadcastInDim S1024 ![] bcast_S_S1024 (constantI S_ 32 8#32)) (ix1 k)).toInt = ((k.val / 256 : ℕ) : ℤ) := by
  have h : ∀ k : Fin 1024, (IntOp.shrsi .host (BitVec.ofNat 32 k.val) 8#32).toInt = ((k.val / 256 : ℕ) : ℤ) := by decide +kernel
  exact h k

/-- and cut to eight bits its low one. -/
theorem low_word (k : Fin 1024) :
    (andi (iotaInDim S1024 32 0) (broadcastInDim S1024 ![] bcast_S_S1024 (constantI S_ 32 255#32)) (ix1 k)).toInt = ((k.val % 256 : ℕ) : ℤ) := by
  have h : ∀ k : Fin 1024, (BitVec.ofNat 32 k.val &&& 255#32).toInt = ((k.val % 256 : ℕ) : ℤ) := by decide +kernel
  exact h k

variable (m : (ℓ : Loc nD τ sig) → Buf (Elt Ideal) ℓ) (c : Dev nD)

/-- Row `n` of the tokens is token `n % 1500` of batch `n / 1500`. -/
theorem v0_at (n : Fin 24000) (d : Fin 128) : V m c main_v0 (ix2 n d) = m ((c : Thread nD τ).loc main_arg0)
    (ix3 (⟨n.val/1500, by omega⟩ : Fin 16) (⟨n.val%1500, by omega⟩ : Fin 1500) d) := by
  unfold V V0 hostOps0_4
  simp only [List.flatten_cons, List.flatten_nil, List.append_nil, List.cons_append, List.nil_append]
  after_reads_at

/-- The codebooks narrowed are the codebooks. -/
theorem v1_at (s : Fin 8) (k : Fin 1024) (d : Fin 128) : V m c main_v1 (ix3 s k d) = m ((c : Thread nD τ).loc main_arg1) (ix3 s k d) := by
  unfold V V0 hostOps0_4
  simp only [List.flatten_cons, List.flatten_nil, List.append_nil, List.cons_append, List.nil_append]
  after_reads_at

/-- The first part of the codebooks is the codebooks, each stage turned over. -/
theorem v28_first (s : Fin 8) (k : Fin 1024) (d : Fin 128) : V m c main_v28 (ix3 s (⟨d.val, by omega⟩ : Fin 384) k) = m ((c : Thread nD τ).loc main_arg1) (ix3 s k d) := by
  unfold V V0 hostOps0_4
  simp only [List.flatten_cons, List.flatten_nil, List.append_nil, List.cons_append, List.nil_append]
  after_reads_at
  after_reads_at
  simp only [le_refl, if_true]

/-- and so is their third, what the first two leave. -/
theorem v28_third (s : Fin 8) (k : Fin 1024) (d : Fin 128) (h : ∃ y : ℝ, m ((c : Thread nD τ).loc main_arg1) (ix3 s k d) = (y : EReal)) :
    V m c main_v28 (ix3 s (⟨256 + d.val, by omega⟩ : Fin 384) k) = (0 : EReal) := by
  obtain ⟨y, hy⟩ := h
  have e : (⟨256 + d.val - 128 - 128, by omega⟩ : Fin 128) = d := Fin.ext (by show 256 + d.val - 128 - 128 = d.val; omega)
  have e0 : m (c, Proc.tc.devRef main_arg1) (ix3 s k d) = (y : EReal) := hy
  have z : (y : EReal) - y = 0 := by rw [← EReal.coe_sub, sub_self, EReal.coe_zero]
  unfold V V0 hostOps0_4
  simp only [List.flatten_cons, List.flatten_nil, List.append_nil, List.cons_append, List.nil_append]
  after_reads_at
  rw [dif_neg (by omega), dif_neg (by omega)]
  after_reads_at
  simp only [le_refl, if_true, e, e0, z, sub_zero]

/-- Their second part, what the first one leaves of a real number, is zero, -/
theorem v28_second (s : Fin 8) (k : Fin 1024) (d : Fin 128) (h : ∃ y : ℝ, m ((c : Thread nD τ).loc main_arg1) (ix3 s k d) = (y : EReal)) :
    V m c main_v28 (ix3 s (⟨128 + d.val, by omega⟩ : Fin 384) k) = (0 : EReal) := by
  obtain ⟨y, hy⟩ := h
  have e : (⟨128 + d.val - 128, by omega⟩ : Fin 128) = d := Fin.ext (by show 128 + d.val - 128 = d.val; omega)
  have e0 : m (c, Proc.tc.devRef main_arg1) (ix3 s k d) = (y : EReal) := hy
  have z : (y : EReal) - y = 0 := by rw [← EReal.coe_sub, sub_self, EReal.coe_zero]
  unfold V V0 hostOps0_4
  simp only [List.flatten_cons, List.flatten_nil, List.append_nil, List.cons_append, List.nil_append]
  after_reads_at
  after_reads_at
  simp only [le_refl, if_true, e, e0, z, sub_zero]

/-- The table's first row is the entries' high digits, -/
theorem v40_high (k : Fin 1024) : V m c main_v40 (ix2 (0 : Fin 8) k) = (((k.val / 256 : ℕ) : ℝ) : EReal) := by
  unfold V V0 hostOps0_4
  simp only [List.flatten_cons, List.flatten_nil, List.append_nil, List.cons_append, List.nil_append]
  after_reads_at
  rw [scatter_row _ _ _ (1 : Fin 8) rfl, if_neg (by decide), scatter_row _ _ _ (0 : Fin 8) rfl, if_pos rfl]
  refine (congrArg (fun z : ℤ => ((z : ℝ) : EReal)) (high_word k)).trans ?_
  norm_cast

/-- its second the low ones. -/
theorem v40_low (k : Fin 1024) : V m c main_v40 (ix2 (1 : Fin 8) k) = (((k.val % 256 : ℕ) : ℝ) : EReal) := by
  unfold V V0 hostOps0_4
  simp only [List.flatten_cons, List.flatten_nil, List.append_nil, List.cons_append, List.nil_append]
  after_reads_at
  rw [scatter_row _ _ _ (1 : Fin 8) rfl, if_pos rfl]
  refine (congrArg (fun z : ℤ => ((z : ℝ) : EReal)) (low_word k)).trans ?_
  norm_cast

end Cert.KernelIdeal.FrameRun
-- ==== Proof.Stage.lean ====
/-
  One stage of the quantiser on whole arrays, as the precondition spells it out: the negated squared distances, the index
  chosen, and what is left. Then what the precondition says: at every stage, of every token, one entry is nearest, and it is
  the index chosen.
-/
module

public import proofs.«01_k».proof.Proof.Gen.Pre_one_nearest
public import proofs.«01_k».proof.Proof.Token
public import Idealize.ShloMosaic.Lib.Pointwise
public import Idealize.ShloMosaic.PureOps.Ideal.Laws
public import Idealize.ShloMosaic.Lib.ReduceAll
public import Idealize.ShloMosaic.Lib.ValueIdxCore

@[expose] public section

noncomputable section

namespace Cert.Stage

open Cert.Pre_one_nearest Cert.Pre_one_nearest.Gen
open Idealize.ShloMosaic
open Token (Tok Book)

/-- The tokens, a codebook, the codebooks, and a word of every token. -/
abbrev Toks := S16x1500x128.Idx → EReal
@[inherit_doc Toks] abbrev Entries := S1024x128.Idx → EReal
@[inherit_doc Toks] abbrev Books := S8x1024x128.Idx → EReal
@[inherit_doc Toks] abbrev Words := IVec S16x1500 32

/-- One token, -/
def tok (r : Toks) (b : Fin 16) (t : Fin 1500) : Tok := fun d => r (ix3 b t d)
/-- one codebook by its entries, -/
def entry (e : Entries) : Book := fun k d => e (ix2 k d)
/-- and the codebook of a stage. -/
def book (cb : Books) (s : Fin 8) : Entries := fun j => cb (ix3 s (j 0) (j 1))

/-- Minus the squared distances of every token to every entry, in the precondition's operations. -/
def dists (r : FVec Ideal S16x1500x128 .f32) (e : FVec Ideal S1024x128 .f32) : FVec Ideal S16x1500x1024 .f32 :=
  Host.negf (addf (subf
    (broadcastInDim S16x1500x1024 ![0, 1, 2] Facts.bcast_S16x1500x1_S16x1500x1024_0_1_2 (broadcastInDim S16x1500x1 ![0, 1]
      Facts.bcast_S16x1500_S16x1500x1_0_1 (Host.reduceAdd (mulf r r) (constant S_ .f32 0x00000000#32) Facts.reducesTo_S16x1500x128_S16x1500_d2 Facts.h_S_)))
    (mulf (broadcastInDim S16x1500x1024 ![] Facts.bcast_S_S16x1500x1024 (constant S_ .f32 0x40000000#32))
      (Host.dotGeneral dot_S16x1500x128_S128x1024_S16x1500x1024_2_0_01_1_n_n none r (transpose S128x1024 [1, 0] e Facts.transposes_S1024x128_S128x1024_1_0))))
    (broadcastInDim S16x1500x1024 ![0, 1, 2] Facts.bcast_S1x1x1024_S16x1500x1024_0_1_2 (broadcastInDim S1x1x1024 ![2]
      Facts.bcast_S1024_S1x1x1024_2 (Host.reduceAdd (mulf e e) (constant S_ .f32 0x00000000#32) Facts.reducesTo_S1024x128_S1024_d1 Facts.h_S_))))

/-- The index chosen for every token. -/
def ind (r : Toks) (e : Entries) : Words := fn_argmax (F := Ideal) (dists r e)

/-- What is left of every token. -/
def left (r : Toks) (e : Entries) : Toks := subf (F := Ideal) (φ := .f32) r (fn_take (F := Ideal) e (ind r e))

/-- A stage's flags: at every entry, it is farther than the nearest or it is the one chosen. -/
def flagsOf (D : FVec Ideal S16x1500x1024 .f32) (w : Words) : IVec S16x1500x1024 1 :=
  ori (cmpf .olt D (broadcastInDim S16x1500x1024 ![0, 1, 2] Facts.bcast_S16x1500x1_S16x1500x1024_0_1_2 (broadcastInDim S16x1500x1 ![0, 1]
      Facts.bcast_S16x1500_S16x1500x1_0_1 (Host.reduce FloatOps.maximumf D (constant S_ .f32 0xFF800000#32) Facts.reducesTo_S16x1500x1024_S16x1500_d2 Facts.h_S_))))
    (cmpi .eq (iotaInDim S16x1500x1024 32 2) (broadcastInDim S16x1500x1024 ![0, 1, 2] Facts.bcast_S16x1500x1_S16x1500x1024_0_1_2
      (broadcastInDim S16x1500x1 ![0, 1] Facts.bcast_S16x1500_S16x1500x1_0_1 w)))

/-- A stage of the precondition is those. -/
theorem stage_eq (r : Toks) (e : Entries) : fn_one_nearest_at_0 (F := Ideal) r e = (left r e, flagsOf (dists r e) (ind r e)) := rfl

/-- So is the first one. -/
theorem first_eq (r : Toks) (e : Entries) : fn_one_nearest_at (F := Ideal) r e = (left r e, flagsOf (dists r e) (ind r e)) := rfl

/-- The distances at one token and entry. -/
theorem dists_at (r : Toks) (e : Entries) (b : Fin 16) (t : Fin 1500) (k : Fin 1024) :
    dists r e (ix3 b t k) = Token.dist (entry e) (tok r b t) k := by
  pointwise [dists, Token.dist, tok, entry]
  rw [Token.ofBits_two]

/-- The greatest value of a token. -/
theorem greatest_at (D : FVec Ideal S16x1500x1024 .f32) (b : Fin 16) (t : Fin 1500) :
    Host.reduce FloatOps.maximumf D (constant S_ .f32 0xFF800000#32) Facts.reducesTo_S16x1500x1024_S16x1500_d2 Facts.h_S_ (ix2 b t) =
      Finset.univ.fold FloatOps.maximumf (Scalar.ofBits (F := Ideal) .f32 0xFF800000#32) fun x : Fin 1024 => D (ix3 b t x) := by
  pointwise

/-- Folding the larger of two is folding `max`. -/
theorem fold_max {ι : Type} (s : Finset ι) (b : EReal) (f : ι → EReal) :
    s.fold (FloatOps.maximumf (F := Ideal) (φ := .f32)) b f = s.fold max b f := rfl

/-- A stage's flags with the greatest values named. -/
theorem flags_named (D : FVec Ideal S16x1500x1024 .f32) (M : FVec Ideal S16x1500 .f32) (w : Words) (b : Fin 16) (t : Fin 1500)
    (k : Fin 1024) :
    ori (cmpf .olt D (broadcastInDim S16x1500x1024 ![0, 1, 2] Facts.bcast_S16x1500x1_S16x1500x1024_0_1_2 (broadcastInDim S16x1500x1 ![0, 1]
      Facts.bcast_S16x1500_S16x1500x1_0_1 M)))
    (cmpi .eq (iotaInDim S16x1500x1024 32 2) (broadcastInDim S16x1500x1024 ![0, 1, 2] Facts.bcast_S16x1500x1_S16x1500x1024_0_1_2
      (broadcastInDim S16x1500x1 ![0, 1] Facts.bcast_S16x1500_S16x1500x1_0_1 w))) (ix3 b t k)
      = IntOp.ori (FloatOps.cmpf .olt (D (ix3 b t k)) (M (ix2 b t)))
          (IntOp.cmpi .eq (BitVec.ofNat 32 k.val) (w (ix2 b t))) := by
  pointwise

/-- A flag that is set: the entry is farther than the nearest, or it is the one chosen. -/
theorem flag_set (D : FVec Ideal S16x1500x1024 .f32) (w : Words) (b : Fin 16) (t : Fin 1500) (k : Fin 1024)
    (h : flagsOf D w (ix3 b t k) = 1#1) :
    D (ix3 b t k) < (Finset.univ.fold max ⊥ fun x : Fin 1024 => D (ix3 b t x)) ∨ BitVec.ofNat 32 k.val = w (ix2 b t) := by
  unfold flagsOf at h
  rw [flags_named, greatest_at, fold_max] at h
  have split : ∀ p q : BitVec 1, IntOp.ori p q = 1#1 → p = 1#1 ∨ q = 1#1 := by decide
  have bit : ∀ p : Bool, BitVec.ofBool p = 1#1 → p = true := by decide
  rcases split _ _ h with h | h
  · left
    have h0 : Scalar.ofBits (F := Ideal) .f32 0xFF800000#32 = (⊥ : EReal) := Token.ofBits_bot
    rw [h0] at h
    exact of_decide_eq_true (bit _ (by simpa [FloatOps.cmpf, Idealize.ShloMosaic.Ideal.cmp] using h))
  · right
    exact of_decide_eq_true (by simpa [IntOp.cmpi] using bit _ h)

/-! ## The rows taken -/

/-- The words a lookup reads by: one below zero counts from the end. -/
def wrapped (w : Words) : Words :=
  fn_where (F := Ideal) (cmpi .slt w (broadcastInDim S16x1500 ![] Facts.bcast_S_S16x1500 (constantI S_ 32 0#32)))
    (addi w (broadcastInDim S16x1500 ![] Facts.bcast_S_S16x1500 (constantI S_ 32 1024#32))) w

/-- Whether each word names an entry. -/
def named (v : IVec S16x1500x1 32) : IVec S16x1500x1 1 :=
  andi (cmpi .sge v (broadcastInDim S16x1500x1 ![] Facts.bcast_S_S16x1500x1 (constantI S_ 32 0#32)))
    (cmpi .sle v (broadcastInDim S16x1500x1 ![0, 1, 2] Facts.bcast_S1x1x1_S16x1500x1_0_1_2
      (broadcastInDim S1x1x1 ![2] Facts.bcast_S1_S1x1x1_2 (constantI S1 32 1023#32))))

/-- The words as a column. -/
def column (w : Words) : IVec S16x1500x1 32 := broadcastInDim S16x1500x1 ![0, 1] Facts.bcast_S16x1500_S16x1500x1_0_1 w

/-- A lookup is its rows where every word names an entry. -/
theorem take_eq (e : Entries) (w : Words) : fn_take (F := Ideal) e w =
    select (broadcastInDim S16x1500x128 ![0, 1] Facts.bcast_S16x1500_S16x1500x128_0_1
      (Host.reduce IntOp.andi (named (column (wrapped w))) (constantI S_ 1 1#1) Facts.reducesTo_S16x1500x1_S16x1500_d2 Facts.h_S_))
      (Host.gather gather_S1024x128_S16x1500x1_S16x1500x128_2_0_n_n_0_2_1128 e (column (wrapped w)))
      (broadcastInDim S16x1500x128 ![] Facts.bcast_S_S16x1500x128 (constant (F := Ideal) S_ .f32 0x7FC00000#32)) := rfl

/-- Words that name entries are read as they are. -/
theorem wrapped_eq (w : Words) (hw : ∀ j, ∃ i : Fin 1024, w j = BitVec.ofNat 32 i.val) : wrapped w = w := by
  funext j
  obtain ⟨i, hi⟩ := hw j
  have h : ∀ i : Fin 1024, IntOp.cmpi .slt (BitVec.ofNat 32 i.val) 0#32 = 0#1 := by decide +kernel
  show Scalar.select (IntOp.cmpi .slt (w j) 0#32) _ (w j) = w j
  rw [hi, h i]
  rfl

/-- The gather at a token and feature: the entry its word names, held to the codebook. -/
theorem gather_at (e : Entries) (v : IVec S16x1500x1 32) (b : Fin 16) (t : Fin 1500) (d : Fin 128) :
    Host.gather gather_S1024x128_S16x1500x1_S16x1500x128_2_0_n_n_0_2_1128 e v (ix3 b t d) =
      e (ix2 (⟨min (v (ix3 b t (0 : Fin 1))).toInt.toNat 1023, by omega⟩ : Fin 1024) d) := by
  unfold Host.gather
  congr 1
  funext a
  refine Fin.ext ?_
  set G := gather_S1024x128_S16x1500x1_S16x1500x128_2_0_n_n_0_2_1128
  show G.start (ix3 b t d) v a + G.batchCoord (ix3 b t d) a + G.offCoord (ix3 b t d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ G.startIndexMap from List.mem_singleton.mpr rfl)]
    have hsi : G.siIdx (ix3 b t d) ⟨List.idxOf (0 : Fin 2) G.startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    exact congrArg (fun q => min (v q).toInt.toNat 1023) hsi
  | ⟨1, _⟩ =>
    unfold GatherDims.start
    rw [dif_neg (show ¬ (⟨1, by decide⟩ : Fin 2) ∈ G.startIndexMap from by decide), Nat.zero_add]
    rfl

/-- **The row taken**: where every word names an entry, the entry its word names. -/
theorem take_at (e : Entries) (w : Words) (hw : ∀ j, ∃ i : Fin 1024, w j = BitVec.ofNat 32 i.val) (b : Fin 16) (t : Fin 1500)
    (d : Fin 128) (i : Fin 1024) (hi : w (ix2 b t) = BitVec.ofNat 32 i.val) :
    fn_take (F := Ideal) e w (ix3 b t d) = e (ix2 i d) := by
  rw [take_eq, wrapped_eq w hw]
  have hn : ∀ j, named (column w) j = 1#1 := fun j => by
    obtain ⟨q, hq⟩ : ∃ q : Fin 1024, column w j = BitVec.ofNat 32 q.val := hw _
    have h : ∀ q : Fin 1024, IntOp.andi (IntOp.cmpi .sge (BitVec.ofNat 32 q.val) 0#32)
        (IntOp.cmpi .sle (BitVec.ofNat 32 q.val) 1023#32) = 1#1 := by decide +kernel
    show IntOp.andi (IntOp.cmpi .sge (column w j) 0#32) (IntOp.cmpi .sle (column w j) 1023#32) = 1#1
    rw [hq]
    exact h q
  have hm : ∀ j, Host.reduce IntOp.andi (named (column w)) (constantI S_ 1 1#1) Facts.reducesTo_S16x1500x1_S16x1500_d2 Facts.h_S_ j
      = 1#1 := fun j => Host.reduce_andi_one _ _ _ _ j rfl hn
  generalize Host.reduce IntOp.andi (named (column w)) (constantI S_ 1 1#1) Facts.reducesTo_S16x1500x1_S16x1500_d2 Facts.h_S_ = M at hm
  have hM : M = fun _ => 1#1 := funext hm
  subst hM
  have hc : column w (ix3 b t (0 : Fin 1)) = w (ix2 b t) := by pointwise [column]
  show Scalar.select (1#1) (Host.gather _ e (column w) (ix3 b t d)) _ = _
  rw [gather_at]
  have h : ∀ q : Fin 1024, min (BitVec.ofNat 32 q.val).toInt.toNat 1023 = q.val := by decide +kernel
  have hq : (⟨min (column w (ix3 b t (0 : Fin 1))).toInt.toNat 1023, by omega⟩ : Fin 1024) = i :=
    Fin.ext ((congrArg (fun q : BitVec 32 => min q.toInt.toNat 1023) (hc.trans hi)).trans (h i))
  show e (ix2 (⟨min (column w (ix3 b t (0 : Fin 1))).toInt.toNat 1023, _⟩ : Fin 1024) d) = e (ix2 i d)
  rw [hq]

/-- What is left of a token is what is left of it by the entry chosen. -/
theorem tok_left (r : Toks) (e : Entries) (hw : ∀ j, ∃ i : Fin 1024, ind r e j = BitVec.ofNat 32 i.val) (b : Fin 16) (t : Fin 1500)
    (i : Fin 1024) (hi : ind r e (ix2 b t) = BitVec.ofNat 32 i.val) :
    tok (left r e) b t = Token.less (entry e) (tok r b t) i := by
  funext d
  show r (ix3 b t d) - fn_take (F := Ideal) e (ind r e) (ix3 b t d) = r (ix3 b t d) - e (ix2 i d)
  rw [take_at e _ hw b t d i hi]

/-- **What a stage's flags say**: of every token, one entry is nearest and it is the index chosen. -/
theorem chosen (r : Toks) (e : Entries) (h : flagsOf (dists r e) (ind r e) = fun _ => 1#1) (b : Fin 16) (t : Fin 1500) :
    ∃ i : Fin 1024, ind r e (ix2 b t) = BitVec.ofNat 32 i.val ∧ Token.Nearest (entry e) (tok r b t) i := by
  refine Token.nearest_of_flags fun k => ?_
  have := flag_set (dists r e) (ind r e) b t k (congrFun h _)
  simpa only [dists_at] using this

end Cert.Stage

end
-- ==== Proof.Given.lean ====
/-
  What the precondition says: the codebooks hold real numbers, and at every stage, of every token, one entry is nearest,
  which is the index chosen.
-/
module

public import proofs.«01_k».proof.Proof.Stage

@[expose] public section

noncomputable section

namespace Cert.Stage

open Cert.Pre_one_nearest Cert.Pre_one_nearest.Gen
open Idealize.ShloMosaic
open Token (Tok Book)

/-- What is left of the tokens before each stage. -/
def rest (x : Toks) (cb : Books) : ℕ → Toks
  | 0 => x
  | s + 1 => left (rest x cb s) (book cb (Fin.ofNat 8 s))

/-- The indices a stage chooses. -/
def codes (x : Toks) (cb : Books) (s : ℕ) : Words := ind (rest x cb s) (book cb (Fin.ofNat 8 s))

/-- The flags of a stage. -/
def flags (x : Toks) (cb : Books) (s : ℕ) : IVec S16x1500x1024 1 :=
  flagsOf (dists (rest x cb s) (book cb (Fin.ofNat 8 s))) (codes x cb s)

/-- One codebook, sliced out and reshaped. -/
theorem book_of (cb : Books) (s : Fin 8) (a : ℕ) (ha : a = s.val) (h : S8x1024x128.Slices ![a, 0, 0] S1x1024x128) :
    shapeCast S1024x128 (extractStridedSlice S1x1024x128 ![a, 0, 0] cb h) Facts.shapeCasts_S1x1024x128_S1024x128 = book cb s := by
  subst ha
  funext j
  obtain ⟨k, d, rfl⟩ : ∃ k d, j = ix2 k d := ⟨j 0, j 1, eq_ix2 j⟩
  pointwise [book]

/-- The precondition, in these words. -/
theorem fn_eq (x : Toks) (cb : Books) : fn (F := Ideal) x cb =
    (cmpf .olt (Host.absf (F := Ideal) (φ := .f32) cb) (broadcastInDim S8x1024x128 ![] Facts.bcast_S_S8x1024x128 (constant S_ .f32 0x7F800000#32)),
      flags x cb 0, flags x cb 1, flags x cb 2, flags x cb 3, flags x cb 4, flags x cb 5, flags x cb 6, flags x cb 7) := by
  unfold fn fn_part1
  simp only [first_eq, stage_eq, book_of cb 0 0 rfl, book_of cb 1 1 rfl, book_of cb 2 2 rfl, book_of cb 3 3 rfl, book_of cb 4 4 rfl,
    book_of cb 5 5 rfl, book_of cb 6 6 rfl, book_of cb 7 7 rfl]
  rfl

/-- A number whose size is below infinity is real. -/
theorem real_of_flag (x : EReal)
    (h : FloatOps.cmpf (F := Ideal) (φ := .f32) .olt (FloatOps.hostAbsf (F := Ideal) (φ := .f32) x) (Scalar.ofBits (F := Ideal) .f32 0x7F800000#32) = 1#1) :
    ∃ y : ℝ, x = y := by
  have h0 : Scalar.ofBits (F := Ideal) .f32 0x7F800000#32 = (⊤ : EReal) := Token.ofBits_top
  rw [h0] at h
  have bit : ∀ p : Bool, BitVec.ofBool p = 1#1 → p = true := by decide
  exact Token.exists_real (of_decide_eq_true (bit _ h))

/-- **The precondition's meaning**: the codebooks are real throughout, and every stage's flags are set. -/
structure Given (x : Toks) (cb : Books) : Prop where
  entries : ∀ j, ∃ y : ℝ, cb j = y
  flag : ∀ s < 8, flags x cb s = fun _ => 1#1

/-- The precondition's nine flags give the facts about the arguments. -/
theorem given_of (x : Toks) (cb : Books) (h : (fn (F := Ideal) x cb).1 = fun _ => 1#1)
    (f0 : (fn (F := Ideal) x cb).2.1 = fun _ => 1#1)
    (f1 : (fn (F := Ideal) x cb).2.2.1 = fun _ => 1#1)
    (f2 : (fn (F := Ideal) x cb).2.2.2.1 = fun _ => 1#1)
    (f3 : (fn (F := Ideal) x cb).2.2.2.2.1 = fun _ => 1#1)
    (f4 : (fn (F := Ideal) x cb).2.2.2.2.2.1 = fun _ => 1#1)
    (f5 : (fn (F := Ideal) x cb).2.2.2.2.2.2.1 = fun _ => 1#1)
    (f6 : (fn (F := Ideal) x cb).2.2.2.2.2.2.2.1 = fun _ => 1#1)
    (f7 : (fn (F := Ideal) x cb).2.2.2.2.2.2.2.2 = fun _ => 1#1) : Given x cb := by
  rw [fn_eq] at h f0 f1 f2 f3 f4 f5 f6 f7
  refine ⟨fun j => real_of_flag _ (congrFun h j), fun s hs => ?_⟩
  match s, hs with
  | 0, _ => exact f0
  | 1, _ => exact f1
  | 2, _ => exact f2
  | 3, _ => exact f3
  | 4, _ => exact f4
  | 5, _ => exact f5
  | 6, _ => exact f6
  | 7, _ => exact f7

variable {x : Toks} {cb : Books} (g : Given x cb)
include g

/-- At every stage, one entry is nearest to a token and is the index chosen. -/
theorem Given.chosen {s : ℕ} (hs : s < 8) (b : Fin 16) (t : Fin 1500) :
    ∃ i : Fin 1024, codes x cb s (ix2 b t) = BitVec.ofNat 32 i.val ∧
      Token.Nearest (entry (book cb (Fin.ofNat 8 s))) (tok (rest x cb s) b t) i :=
  Stage.chosen _ _ (g.flag s hs) b t

/-- What is left of a token after a stage. -/
theorem Given.tok_rest {s : ℕ} (hs : s < 8) (b : Fin 16) (t : Fin 1500) (i : Fin 1024)
    (hi : codes x cb s (ix2 b t) = BitVec.ofNat 32 i.val) :
    tok (rest x cb (s + 1)) b t = Token.less (entry (book cb (Fin.ofNat 8 s))) (tok (rest x cb s) b t) i := by
  refine tok_left _ _ (fun j => ?_) b t i hi
  obtain ⟨i, h, -⟩ := g.chosen hs (j 0) (j 1)
  exact ⟨i, by rw [eq_ix2 j]; exact h⟩

end Cert.Stage
-- ==== Proof.KernelValue.lean ====
/-
  The kernel's result over the extended reals, on the arguments the precondition admits: every point's block holds the
  reference's codes, so the region's array does, and the last host line only cuts its columns into batches.
-/
module

public import proofs.«01_k».proof.Proof.HostIdeal
public import proofs.«01_k».proof.Proof.Given
public import Idealize.ShloMosaic.Lib.Pipeline.ValueKit.Geometry

@[expose] public section

set_option maxRecDepth 16384

noncomputable section

namespace Cert.KernelIdeal.FrameRun

open Cert.KernelIdeal Cert.KernelIdeal.Gen Cert.KernelIdeal.Run Cert.KernelIdeal.Block
open Idealize.ShloMosaic Idealize.ShloMosaic.TcCoe
open Idealize.ShloMosaic.StableHlo
open Idealize.ShloMosaic.Pipeline (Dat Cfg Window)

/-- A grid point's inputs, without its tokens, are the codebooks, their three parts and the digits. -/
structure Holds (I : Inputs Ideal) (cb : Stage.Books) : Prop where
  full : ∀ s k d, I.cb (ix3 s k d) = cb (ix3 s k d)
  narrow : ∀ s k d, I.cbb (ix3 s k d) = cb (ix3 s k d)
  first : ∀ s (d : Fin 128) k, I.cb3 (ix3 s (⟨d.val, by omega⟩ : Fin 384) k) = cb (ix3 s k d)
  second : ∀ s (d : Fin 128) k, I.cb3 (ix3 s (⟨128 + d.val, by omega⟩ : Fin 384) k) = (0 : EReal)
  third : ∀ s (d : Fin 128) k, I.cb3 (ix3 s (⟨256 + d.val, by omega⟩ : Fin 384) k) = (0 : EReal)
  high : ∀ k : Fin 1024, I.tab (ix2 (0 : Fin 8) k) = (((k.val / 256 : ℕ) : ℝ) : EReal)
  low : ∀ k : Fin 1024, I.tab (ix2 (1 : Fin 8) k) = (((k.val % 256 : ℕ) : ℝ) : EReal)

/-- The inputs hold them when each array does, the last two through a copy. -/
theorem holds_of {cb : Stage.Books} (x : Vec Ideal S2048x128 .f32) (a1 : Vec Ideal S8x1024x128 .f32) (a2 : Vec Ideal S8x1024x128 .bf16)
    (a3 : Vec Ideal S8x384x1024 .bf16) (a4 : Vec Ideal S8x1024 .bf16) (h1 : ∀ s k d, a1 (ix3 s k d) = cb (ix3 s k d))
    (h2 : ∀ s k d, a2 (ix3 s k d) = cb (ix3 s k d)) (b3 : Vec Ideal S8x384x1024 .bf16) (h3 : ∀ s d k, a3 (ix3 s d k) = b3 (ix3 s d k))
    (p1 : ∀ s (d : Fin 128) k, b3 (ix3 s (⟨d.val, by omega⟩ : Fin 384) k) = cb (ix3 s k d))
    (p2 : ∀ s (d : Fin 128) k, b3 (ix3 s (⟨128 + d.val, by omega⟩ : Fin 384) k) = (0 : EReal))
    (p3 : ∀ s (d : Fin 128) k, b3 (ix3 s (⟨256 + d.val, by omega⟩ : Fin 384) k) = (0 : EReal))
    (b4 : Vec Ideal S8x1024 .bf16) (h4 : ∀ r k, a4 (ix2 r k) = b4 (ix2 r k))
    (q1 : ∀ k : Fin 1024, b4 (ix2 (0 : Fin 8) k) = (((k.val / 256 : ℕ) : ℝ) : EReal))
    (q2 : ∀ k : Fin 1024, b4 (ix2 (1 : Fin 8) k) = (((k.val % 256 : ℕ) : ℝ) : EReal)) : Holds ⟨x, a1, a2, a3, a4⟩ cb :=
  ⟨h1, h2, fun s d k => (h3 s _ k).trans (p1 s d k), fun s d k => (h3 s _ k).trans (p2 s d k), fun s d k => (h3 s _ k).trans (p3 s d k),
    fun k => (h4 0 k).trans (q1 k), fun k => (h4 1 k).trans (q2 k)⟩

/-- On such inputs the mark is at the nearest entry. -/
theorem mark_at {I : Inputs Ideal} {cb : Stage.Books} (H : Holds I cb) (s : Fin 8) {r : Token.Tok} {i : Fin 1024}
    (he : Token.Fin2 (Stage.entry (Stage.book cb s))) (hi : Token.Nearest (Stage.entry (Stage.book cb s)) r i) (k : Fin 1024) :
    I.tokMark s r k = if k = i then 1 else 0 := by
  have e1 : (fun k d => I.cb (ix3 s k d)) = Stage.entry (Stage.book cb s) := funext fun k => funext fun d => H.full s k d
  have e2 : (fun k d => I.cbb (ix3 s k d)) = Stage.entry (Stage.book cb s) := funext fun k => funext fun d => H.narrow s k d
  unfold Inputs.tokMark
  rw [e1, e2]
  exact Token.mark_score he hi k

/-- Every entry of every stage's codebook is finite. -/
theorem fin_entry {x : Stage.Toks} {cb : Stage.Books} (g : Stage.Given x cb) (s : Fin 8) : Token.Fin2 (Stage.entry (Stage.book cb s)) :=
  fun _ _ => g.entries _

/-- The kernel's residual of a token before a stage is the reference's. -/
theorem resid_at {I : Inputs Ideal} {x : Stage.Toks} {cb : Stage.Books} (g : Stage.Given x cb) (H : Holds I cb) (b : Fin 16) (t : Fin 1500) :
    ∀ s : ℕ, s ≤ 8 → I.tokResid (Stage.tok x b t) s = Stage.tok (Stage.rest x cb s) b t
  | 0, _ => rfl
  | s + 1, h => by
    obtain ⟨i, hc, hi⟩ := g.chosen (show s < 8 by omega) b t
    rw [Inputs.tokResid, resid_at g H b t s (by omega), g.tok_rest (show s < 8 by omega) b t i hc]
    exact Token.next_eq (mark_at H _ (fin_entry g _) hi) (fun d k => H.first _ d k) (fun d k => H.second _ d k)
      (fun d k => H.third _ d k)

/-- The kernel's code of a token at a stage is the reference's. -/
theorem code_at {I : Inputs Ideal} {x : Stage.Toks} {cb : Stage.Books} (g : Stage.Given x cb) (H : Holds I cb) (b : Fin 16) (t : Fin 1500)
    (s : ℕ) (h : s < 8) : I.tokCode (Stage.tok x b t) s = Stage.codes x cb s (ix2 b t) := by
  obtain ⟨i, e, hi⟩ := g.chosen h b t
  rw [Inputs.tokCode, resid_at g H b t s h.le, e]
  exact Token.code_eq (mark_at H _ (fin_entry g _) hi) H.high H.low

variable (m : (ℓ : Loc nD τ sig) → Buf (Elt Ideal) ℓ) (c : Dev nD)

/-- Where the six windows' blocks lie at a point. -/
theorem blocks_at : ∀ t : Fin cfg0.N, win0_0.index t = ![t.val, 0] ∧ win0_1.index t = ![0, 0, 0] ∧ win0_2.index t = ![0, 0, 0]
    ∧ win0_3.index t = ![0, 0, 0] ∧ win0_4.index t = ![0, 0] ∧ win0_5.index t = ![0, t.val] :=
  (by decide +kernel : ∀ t : Fin grid0.N, win0_0.index t = ![t.val, 0] ∧ win0_1.index t = ![0, 0, 0] ∧ win0_2.index t = ![0, 0, 0]
    ∧ win0_3.index t = ![0, 0, 0] ∧ win0_4.index t = ![0, 0] ∧ win0_5.index t = ![0, t.val])

/-- A point's tokens lie inside the array. -/
theorem inside : ∀ t : Fin cfg0.N, 2048 * t.val + win0_0.xsize (grid0.coords t) 0 ≤ 24000 :=
  (by decide +kernel : ∀ t : Fin grid0.N, 2048 * t.val + win0_0.xsize (grid0.coords t) 0 ≤ 24000)

/-- The second window's block is its whole array, -/
theorem whole_1 (t : Fin cfg0.N) (s : Fin 8) (k : Fin 1024) (d : Fin 128) : iblk m c 1 t (ix3 s k d) = V m c main_arg1 (ix3 s k d) := by
  obtain ⟨-, e, -⟩ := blocks_at t
  blk_ext [iblk, e]

/-- and so are the third's, -/
theorem whole_2 (t : Fin cfg0.N) (s : Fin 8) (k : Fin 1024) (d : Fin 128) : iblk m c 2 t (ix3 s k d) = V m c main_v1 (ix3 s k d) := by
  obtain ⟨-, -, e, -⟩ := blocks_at t
  blk_ext [iblk, e]

/-- the fourth's -/
theorem whole_3 (t : Fin cfg0.N) (s : Fin 8) (d : Fin 384) (k : Fin 1024) : iblk m c 3 t (ix3 s d k) = V m c main_v28 (ix3 s d k) := by
  obtain ⟨-, -, -, e, -⟩ := blocks_at t
  blk_ext [iblk, e]

/-- and the fifth's. -/
theorem whole_4 (t : Fin cfg0.N) (r : Fin 8) (k : Fin 1024) : iblk m c 4 t (ix2 r k) = V m c main_v40 (ix2 r k) := by
  obtain ⟨-, -, -, -, e, -⟩ := blocks_at t
  blk_ext [iblk, e]

/-- A row of the first window's block, inside the array, is the token it lies at. -/
theorem row_at (t : Fin cfg0.N) (n : Fin 2048) (hn : n.val < win0_0.xsize (grid0.coords t) 0) (d : Fin 128) :
    (pointIn m c t zeroRows).x (ix2 n d)
      = V m c main_v0 (ix2 (⟨2048 * t.val + n.val, by have := inside t; omega⟩ : Fin 24000) d) := by
  obtain ⟨e, -⟩ := blocks_at t
  have hm : win0_0.moved (grid0.coords t) (ix2 n d) = true := by
    refine (win0_0.moved_iff _ _).mpr fun a => ?_
    fin_cases a
    · exact hn
    · exact lt_of_lt_of_eq d.isLt (moved_alike t).2.symm
  show win0_0.fill _ zeroRows _ _ = _
  unfold Window.fill
  rw [dif_pos hm]
  blk_ext [iblk, e]

/-- What a point's inputs hold, on the arguments the precondition admits. -/
theorem holds_at (t : Fin cfg0.N) (g : Stage.Given (m ((c : Thread nD τ).loc main_arg0)) (m ((c : Thread nD τ).loc main_arg1))) :
    Holds (pointIn m c t zeroRows) (m ((c : Thread nD τ).loc main_arg1)) := by
  have h1 : ∀ s k d, iblk m c 1 t (ix3 s k d) = m ((c : Thread nD τ).loc main_arg1) (ix3 s k d) :=
    fun s k d => (whole_1 m c t s k d).trans (congrFun (V_main_arg1 m c) _)
  have h2 : ∀ s k d, iblk m c 2 t (ix3 s k d) = m ((c : Thread nD τ).loc main_arg1) (ix3 s k d) :=
    fun s k d => (whole_2 m c t s k d).trans (v1_at m c s k d)
  have h3 := whole_3 m c t
  have h4 := whole_4 m c t
  have f2 := fun s d k => v28_second m c s k d (g.entries _)
  have f3 := fun s d k => v28_third m c s k d (g.entries _)
  unfold pointIn
  exact holds_of _ _ _ _ _ h1 h2 _ h3 (fun s d k => v28_first m c s k d) f2 f3 _ h4 (v40_high m c) (v40_low m c)

/-- The codes in the region's array: a row per stage, a column per token. -/
def table : S8x24000.Idx → BitVec 32 := fun j =>
  Stage.codes (m ((c : Thread nD τ).loc main_arg0)) (m ((c : Thread nD τ).loc main_arg1)) (j 0).val
    (ix2 (⟨(j 1).val / 1500, by have : (j 1).val < 24000 := (j 1).isLt; omega⟩ : Fin 16) (⟨(j 1).val % 1500, by omega⟩ : Fin 1500))

/-- The codes of a batch's token in the array. -/
theorem table_at (s : Fin 8) (b : Fin 16) (t : Fin 1500) (h : b.val * 1500 + t.val < 24000) :
    table m c (ix2 s (⟨b.val * 1500 + t.val, h⟩ : Fin 24000))
      = Stage.codes (m ((c : Thread nD τ).loc main_arg0)) (m ((c : Thread nD τ).loc main_arg1)) s.val (ix2 b t) := by
  have e1 : ∀ h', (⟨(b.val * 1500 + t.val) / 1500, h'⟩ : Fin 16) = b := fun _ => Fin.ext (by show (b.val * 1500 + t.val) / 1500 = b.val; omega)
  have e2 : ∀ h', (⟨(b.val * 1500 + t.val) % 1500, h'⟩ : Fin 1500) = t := fun _ => Fin.ext (by show (b.val * 1500 + t.val) % 1500 = t.val; omega)
  unfold table
  generalize Stage.codes (m ((c : Thread nD τ).loc main_arg0)) (m ((c : Thread nD τ).loc main_arg1)) = w
  exact congrArg (w s.val) (congrArg₂ ix2 (e1 _) (e2 _))

/-- A code of a point's block is the reference's at the token it lies at. -/
theorem block_at (t : Fin cfg0.N) (g : Stage.Given (m ((c : Thread nD τ).loc main_arg0)) (m ((c : Thread nD τ).loc main_arg1)))
    (s : Fin 8) (n : Fin 2048) (hn : n.val < win0_0.xsize (grid0.coords t) 0) :
    (pointIn m c t zeroRows).block (ix2 s n) = table m c (ix2 s (⟨2048 * t.val + n.val, by have := inside t; omega⟩ : Fin 24000)) := by
  rw [block_token, funext fun d => (row_at m c t n hn d).trans (v0_at m c _ d)]
  exact code_at g (holds_at m c t g) _ _ s.val s.isLt

/-- The region's array at the end: every code. -/
theorem table_eq (g : Stage.Given (m ((c : Thread nD τ).loc main_arg0)) (m ((c : Thread nD τ).loc main_arg1))) :
    (dats m 0 c).arrAt 5 cfg0.N = table m c := by
  refine (dats m 0 c).arrAt_eq_of_covers 5 _ (by decide +kernel) fun t hf y => ?_
  obtain ⟨-, -, -, -, -, e⟩ := blocks_at t
  obtain ⟨s, n, ey, hs, hn, hx⟩ := put_at t y
  blk_simp
  rw [after_5]
  refine (congrArg _ ey).trans ((block_at m c t g s n hx).trans (congrArg (table m c) ?_))
  blk_ext [e]

/-- The kernel's result at the end: the reference's codes. -/
theorem result_at (g : Stage.Given (m ((c : Thread nD τ).loc main_arg0)) (m ((c : Thread nD τ).loc main_arg1))) (s : Fin 8) (b : Fin 16) (t : Fin 1500) :
    ended m c main_v42 (ix3 s b t)
      = Stage.codes (m ((c : Thread nD τ).loc main_arg0)) (m ((c : Thread nD τ).loc main_arg1)) s.val (ix2 b t) := by
  unfold ended Pipeline.afterTail₀
  simp only [List.flatten_cons, List.flatten_nil, List.append_nil]
  unfold hostOps1
  after_reads_at
  refine (congrFun (Pipeline.withArrays_arr spec0 launch0.win.arr_inj c (V0 m c) (fun w => (dats m 0 c).arrAt w cfg0.N) 5) _).trans ?_
  refine (congrFun (table_eq m c g) _).trans ?_
  exact table_at m c s b t _

end Cert.KernelIdeal.FrameRun

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

/-! # The reference's operations in order

The reference is a loop of eight trips over host operations alone. Here its operations are listed stretch by stretch (the
lines of a called function a stretch of their own), each stretch with the buffers it writes, and the program and the loop's
body are shown to be those stretches in a row. -/

@[expose] public section

noncomputable section

namespace Cert.ReferenceIdeal.Steps

open Cert.ReferenceIdeal Cert.ReferenceIdeal.Gen
open Idealize.ShloMosaic Idealize.ShloMosaic.TcCoe
open Idealize.SL Idealize.SL.RA Idealize.SL.BI
open Idealize.SL.BI.BIBase Idealize.SL.Sem
open Idealize.ShloMosaic.StableHlo

variable {F : FTy → Type} [FloatOps F]

/-- Before the loop: zeros for the codes, the trip counter at zero, the two arguments copied. -/
abbrev entryOps : List (HloOp τ sig (Elt F)) :=
  [ nullary main_c (constantI S_ 32 0#32),
    unary main_c main_v0 (broadcastInDim S8x16x1500 ![] bcast_S_S8x16x1500 : (⟨S_, .i32⟩ : BufTy).Contents (Elt F) → (⟨S8x16x1500, .i32⟩ : BufTy).Contents (Elt F)),
    nullary main_c_0 (constantI S_ 32 0#32),
    unary main_arg1 main_v1_0 id,
    unary main_c_0 main_v1_1 id,
    unary main_arg0 main_v1_2 id,
    unary main_v0 main_v1_3 id ]

/-- The stage's codebook cut out of the eight. -/
abbrev bookOps : List (HloOp τ sig (Elt F)) :=
  [ TRef.nullary main_while0b_call0.c (constantI S_ 32 0#32),
    TRef.nullary main_while0b_call0.c_0 (constantI S_ 32 0#32),
    TRef.unaryIndexed (.of main_v1_0 : TRef sig ⟨S8x1024x128, .f32⟩) ![(.of main_v1_1 : TRef sig ⟨S_, .i32⟩), main_while0b_call0.c, main_while0b_call0.c_0] main_while0b_call0.v0
      (fun x i => Host.dynamicSlice S1x1024x128 x (fun k => (i k (Shape.Idx.first h_S_)).toInt) sliceFits_S8x1024x128_S1x1024x128),
    TRef.reshape main_while0b_call0.v0 main_while0b_call0.v1 (rfl : (.f32 : EltTy) = .f32) shapeCasts_S1x1024x128_S1024x128 ]

/-- The negated squared distances of every residual row to every entry. -/
abbrev distOps : List (HloOp τ sig (Elt F)) :=
  [ binary main_v1_2 main_v1_2 main_while0b_v3 (mulf : (⟨S16x1500x128, .f32⟩ : BufTy).Contents (Elt F) → (⟨S16x1500x128, .f32⟩ : BufTy).Contents (Elt F) → (⟨S16x1500x128, .f32⟩ : BufTy).Contents (Elt F)),
    nullary main_while0b_cst (constant S_ .f32 0x00000000#32),
    binary main_while0b_v3 main_while0b_cst main_while0b_v4 ((fun x v => Host.reduceAdd x v reducesTo_S16x1500x128_S16x1500_d2 h_S_) : (⟨S16x1500x128, .f32⟩ : BufTy).Contents (Elt F) → (⟨S_, .f32⟩ : BufTy).Contents (Elt F) → (⟨S16x1500, .f32⟩ : BufTy).Contents (Elt F)),
    unary main_while0b_v4 main_while0b_v5 (broadcastInDim S16x1500x1 ![0, 1] bcast_S16x1500_S16x1500x1_0_1 : (⟨S16x1500, .f32⟩ : BufTy).Contents (Elt F) → (⟨S16x1500x1, .f32⟩ : BufTy).Contents (Elt F)),
    unary main_while0b_v2 main_while0b_v6 ((transpose S128x1024 [1, 0] · transposes_S1024x128_S128x1024_1_0) : (⟨S1024x128, .f32⟩ : BufTy).Contents (Elt F) → (⟨S128x1024, .f32⟩ : BufTy).Contents (Elt F)),
    binary main_v1_2 main_while0b_v6 main_while0b_v7 ((fun l r => Host.dotGeneral dot_S16x1500x128_S128x1024_S16x1500x1024_2_0_01_1_n_n none l r) : (⟨S16x1500x128, .f32⟩ : BufTy).Contents (Elt F) → (⟨S128x1024, .f32⟩ : BufTy).Contents (Elt F) → (⟨S16x1500x1024, .f32⟩ : BufTy).Contents (Elt F)),
    binary main_while0b_v2 main_while0b_v2 main_while0b_v8 (mulf : (⟨S1024x128, .f32⟩ : BufTy).Contents (Elt F) → (⟨S1024x128, .f32⟩ : BufTy).Contents (Elt F) → (⟨S1024x128, .f32⟩ : BufTy).Contents (Elt F)),
    nullary main_while0b_cst_4 (constant S_ .f32 0x00000000#32),
    binary main_while0b_v8 main_while0b_cst_4 main_while0b_v9 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_while0b_v9 main_while0b_v10 (broadcastInDim S1x1x1024 ![2] bcast_S1024_S1x1x1024_2 : (⟨S1024, .f32⟩ : BufTy).Contents (Elt F) → (⟨S1x1x1024, .f32⟩ : BufTy).Contents (Elt F)),
    nullary main_while0b_cst_5 (constant S_ .f32 0x40000000#32),
    unary main_while0b_cst_5 main_while0b_v11 (broadcastInDim S16x1500x1024 ![] bcast_S_S16x1500x1024 : (⟨S_, .f32⟩ : BufTy).Contents (Elt F) → (⟨S16x1500x1024, .f32⟩ : BufTy).Contents (Elt F)),
    binary main_while0b_v11 main_while0b_v7 main_while0b_v12 (mulf : (⟨S16x1500x1024, .f32⟩ : BufTy).Contents (Elt F) → (⟨S16x1500x1024, .f32⟩ : BufTy).Contents (Elt F) → (⟨S16x1500x1024, .f32⟩ : BufTy).Contents (Elt F)),
    unary main_while0b_v5 main_while0b_v13 (broadcastInDim S16x1500x1024 ![0, 1, 2] bcast_S16x1500x1_S16x1500x1024_0_1_2 : (⟨S16x1500x1, .f32⟩ : BufTy).Contents (Elt F) → (⟨S16x1500x1024, .f32⟩ : BufTy).Contents (Elt F)),
    binary main_while0b_v13 main_while0b_v12 main_while0b_v14 (subf : (⟨S16x1500x1024, .f32⟩ : BufTy).Contents (Elt F) → (⟨S16x1500x1024, .f32⟩ : BufTy).Contents (Elt F) → (⟨S16x1500x1024, .f32⟩ : BufTy).Contents (Elt F)),
    unary main_while0b_v10 main_while0b_v15 (broadcastInDim S16x1500x1024 ![0, 1, 2] bcast_S1x1x1024_S16x1500x1024_0_1_2 : (⟨S1x1x1024, .f32⟩ : BufTy).Contents (Elt F) → (⟨S16x1500x1024, .f32⟩ : BufTy).Contents (Elt F)),
    binary main_while0b_v14 main_while0b_v15 main_while0b_v16 (addf : (⟨S16x1500x1024, .f32⟩ : BufTy).Contents (Elt F) → (⟨S16x1500x1024, .f32⟩ : BufTy).Contents (Elt F) → (⟨S16x1500x1024, .f32⟩ : BufTy).Contents (Elt F)),
    unary main_while0b_v16 main_while0b_v17 (Host.negf : (⟨S16x1500x1024, .f32⟩ : BufTy).Contents (Elt F) → (⟨S16x1500x1024, .f32⟩ : BufTy).Contents (Elt F)) ]

/-- The index of the largest. -/
abbrev pickOps : List (HloOp τ sig (Elt F)) :=
  [ TRef.nullary main_while0b_call1.v0 (iotaInDim S16x1500x1024 32 2),
    TRef.nullary main_while0b_call1.cst (constant S_ .f32 0xFF800000#32),
    TRef.nullary main_while0b_call1.c (constantI S_ 32 0#32),
    TRef.quaternary (.of main_while0b_v17 : TRef sig ⟨S16x1500x1024, .f32⟩) main_while0b_call1.v0 main_while0b_call1.cst main_while0b_call1.c main_while0b_call1.v1_0
      (fun x y u v j => (Host.argReduce reducer_argmax_f32_i32 x y u v reducesTo_S16x1500x1024_S16x1500_d2 h_S_ j).1),
    TRef.quaternary (.of main_while0b_v17 : TRef sig ⟨S16x1500x1024, .f32⟩) main_while0b_call1.v0 main_while0b_call1.cst main_while0b_call1.c main_while0b_call1.v1_1
      (fun x y u v j => (Host.argReduce reducer_argmax_f32_i32 x y u v reducesTo_S16x1500x1024_S16x1500_d2 h_S_ j).2) ]

/-- The entry taken at every row's index. -/
abbrev takeOps : List (HloOp τ sig (Elt F)) :=
  [ TRef.nullary main_while0b_call2.c (constantI S_ 32 0#32),
    TRef.unary main_while0b_call2.c main_while0b_call2.v0 (broadcastInDim S16x1500 ![] bcast_S_S16x1500),
    TRef.binary (.of main_while0b_v18 : TRef sig ⟨S16x1500, .i32⟩) main_while0b_call2.v0 main_while0b_call2.v1 (cmpi .slt),
    TRef.nullary main_while0b_call2.c_0 (constantI S_ 32 1024#32),
    TRef.unary main_while0b_call2.c_0 main_while0b_call2.v2 (broadcastInDim S16x1500 ![] bcast_S_S16x1500),
    TRef.binary (.of main_while0b_v18 : TRef sig ⟨S16x1500, .i32⟩) main_while0b_call2.v2 main_while0b_call2.v3 addi,
    TRef.ternary main_while0b_call2.v1 main_while0b_call2.v3 (.of main_while0b_v18 : TRef sig ⟨S16x1500, .i32⟩) main_while0b_call2.call0.v0 select,
    TRef.unary main_while0b_call2.call0.v0 main_while0b_call2.v5 (broadcastInDim S16x1500x1 ![0, 1] bcast_S16x1500_S16x1500x1_0_1),
    TRef.nullary main_while0b_call2.c_1 (constantI S1 32 1023#32),
    TRef.nullary main_while0b_call2.c_2 (constantI S_ 32 0#32),
    TRef.unary main_while0b_call2.c_2 main_while0b_call2.v6 (broadcastInDim S16x1500x1 ![] bcast_S_S16x1500x1),
    TRef.binary main_while0b_call2.v5 main_while0b_call2.v6 main_while0b_call2.v7 (cmpi .sge),
    TRef.unary main_while0b_call2.c_1 main_while0b_call2.v8 (broadcastInDim S1x1x1 ![2] bcast_S1_S1x1x1_2),
    TRef.unary main_while0b_call2.v8 main_while0b_call2.v9 (broadcastInDim S16x1500x1 ![0, 1, 2] bcast_S1x1x1_S16x1500x1_0_1_2),
    TRef.binary main_while0b_call2.v5 main_while0b_call2.v9 main_while0b_call2.v10 (cmpi .sle),
    TRef.binary main_while0b_call2.v7 main_while0b_call2.v10 main_while0b_call2.v11 andi,
    TRef.nullary main_while0b_call2.c_3 (constantI S_ 1 1#1),
    TRef.binary main_while0b_call2.v11 main_while0b_call2.c_3 main_while0b_call2.v12 (fun x v => Host.reduce IntOp.andi x v reducesTo_S16x1500x1_S16x1500_d2 h_S_),
    TRef.binary (.of main_while0b_v2 : TRef sig ⟨S1024x128, .f32⟩) main_while0b_call2.v5 main_while0b_call2.v13 (fun x i => Host.gather gather_S1024x128_S16x1500x1_S16x1500x128_2_0_n_n_0_2_1128 x i),
    TRef.unary main_while0b_call2.v12 main_while0b_call2.v14 (broadcastInDim S16x1500x128 ![0, 1] bcast_S16x1500_S16x1500x128_0_1),
    TRef.nullary main_while0b_call2.cst (constant S_ .f32 0x7FC00000#32),
    TRef.unary main_while0b_call2.cst main_while0b_call2.v15 (broadcastInDim S16x1500x128 ![] bcast_S_S16x1500x128),
    TRef.ternary main_while0b_call2.v14 main_while0b_call2.v13 main_while0b_call2.v15 main_while0b_call2.v16 select ]

/-- What is left of every row. -/
abbrev leftOps : List (HloOp τ sig (Elt F)) :=
  [ binary main_v1_2 main_while0b_v19 main_while0b_v20 (subf : (⟨S16x1500x128, .f32⟩ : BufTy).Contents (Elt F) → (⟨S16x1500x128, .f32⟩ : BufTy).Contents (Elt F) → (⟨S16x1500x128, .f32⟩ : BufTy).Contents (Elt F)) ]

/-- The stage's indices put into the codes. -/
abbrev putOps : List (HloOp τ sig (Elt F)) :=
  [ TRef.unary (.of main_while0b_v18 : TRef sig ⟨S16x1500, .i32⟩) main_while0b_call3.v0 (broadcastInDim S1x16x1500 ![1, 2] bcast_S16x1500_S1x16x1500_1_2),
    TRef.nullary main_while0b_call3.c (constantI S_ 32 0#32),
    TRef.nullary main_while0b_call3.c_0 (constantI S_ 32 0#32),
    TRef.binaryIndexed (.of main_v1_3 : TRef sig ⟨S8x16x1500, .i32⟩) main_while0b_call3.v0 ![(.of main_v1_1 : TRef sig ⟨S_, .i32⟩), main_while0b_call3.c, main_while0b_call3.c_0] main_while0b_call3.v1
      (fun x u i => Host.dynamicUpdateSlice x u (fun k => (i k (Shape.Idx.first h_S_)).toInt) updateFits_S8x16x1500_S1x16x1500) ]

/-- The counter one on, and the trip's results copied into the carried buffers. -/
abbrev backOps : List (HloOp τ sig (Elt F)) :=
  [ nullary main_while0b_c_6 (constantI S_ 32 1#32),
    binary main_v1_1 main_while0b_c_6 main_while0b_v22 (addi : (⟨S_, .i32⟩ : BufTy).Contents (Elt F) → (⟨S_, .i32⟩ : BufTy).Contents (Elt F) → (⟨S_, .i32⟩ : BufTy).Contents (Elt F)),
    unary main_while0b_v22 main_v1_1 id,
    unary main_while0b_v20 main_v1_2 id,
    unary main_while0b_v21 main_v1_3 id ]

/-- The condition: the bound eight, and the counter compared with it. -/
abbrev condOps : List (HloOp τ sig (Elt F)) :=
  [ nullary main_while0c_c_4 (constantI S_ 32 8#32),
    binary main_v1_1 main_while0c_c_4 main_while0c_v2 (cmpi .slt) ]

/-- The stretches before the loop, of the loop's body, and after the loop. -/
abbrev preI : List (List (HloOp τ sig (Elt F))) := [entryOps]
@[inherit_doc preI] abbrev bodyI : List (List (HloOp τ sig (Elt F))) := [bookOps, distOps, pickOps, takeOps, leftOps, putOps, backOps]
@[inherit_doc preI] abbrev postI : List (List (HloOp τ sig (Elt F))) := []

/-! ## The program is its stretches in a row -/

/-- The program is its stretch before the loop and the loop. -/
theorem main_chain (c : Dev nD) : main (F := F) c = (Pipeline.chain [seq entryOps, HostLoop.enter 0] : Prog (TpuEff nD τ sig (Elt F) (HostLoop.Sig (Pipeline.Sig Λ₀ (Fin 0) fun p => (pcfgs (F := F) p).Adm) 1) .tc) PUnit) := by
  rewrite [chain_seq_cons, Pipeline.chain_cons]
  chain_rfl

/-- The loop's body is its seven stretches. -/
theorem body_chain : main_while0_body (F := F) = (Pipeline.chain
    [seq bookOps, seq distOps, seq pickOps, seq takeOps, seq leftOps, seq putOps, seq backOps]
    : Prog (TpuEff nD τ sig (Elt F) (HostLoop.Sig (Pipeline.Sig Λ₀ (Fin 0) fun p => (pcfgs (F := F) p).Adm) 1) .tc) PUnit) := by
  rewrite [Pipeline.chain_cons, chain_seq_cons, Pipeline.chain_cons, Pipeline.chain_cons, chain_seq_cons, Pipeline.chain_cons, chain_seq_cons]
  chain_rfl

/-! ## Each stretch touches the core's own buffers, allocates none, and writes those listed -/

/-- The lines before the loop touch known buffers only. -/
theorem entryOps_sub : (entryOps : List (HloOp τ sig (Elt F))).Forall fun op => op.bufs ⊆ tcRefs τ sig :=
  ⟨nullary_bufs_sub .., unary_bufs_sub .., nullary_bufs_sub .., unary_bufs_sub .., unary_bufs_sub .., unary_bufs_sub .., unary_bufs_sub ..⟩
/-- The lines that pick a stage's codebook touch known buffers only. -/
theorem bookOps_sub : (bookOps : List (HloOp τ sig (Elt F))).Forall fun op => op.bufs ⊆ tcRefs τ sig :=
  ⟨nullary_bufs_sub .., nullary_bufs_sub .., unaryIndexed_bufs_sub .., reshape_bufs_sub ..⟩
/-- The lines of the distances touch known buffers only. -/
theorem distOps_sub : (distOps : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub ..,
    nullary_bufs_sub .., binary_bufs_sub .., unary_bufs_sub .., nullary_bufs_sub .., unary_bufs_sub .., binary_bufs_sub .., unary_bufs_sub ..,
    binary_bufs_sub .., unary_bufs_sub .., binary_bufs_sub .., unary_bufs_sub ..⟩
/-- The lines of the choice touch known buffers only. -/
theorem pickOps_sub : (pickOps : List (HloOp τ sig (Elt F))).Forall fun op => op.bufs ⊆ tcRefs τ sig :=
  ⟨nullary_bufs_sub .., nullary_bufs_sub .., nullary_bufs_sub .., quaternary_bufs_sub .., quaternary_bufs_sub ..⟩
/-- The lines that take the chosen entry touch known buffers only. -/
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub ..⟩
/-- The line of the new residual touch known buffers only. -/
theorem leftOps_sub : (leftOps : List (HloOp τ sig (Elt F))).Forall fun op => op.bufs ⊆ tcRefs τ sig := binary_bufs_sub ..
/-- The lines that store the codes touch known buffers only. -/
theorem putOps_sub : (putOps : List (HloOp τ sig (Elt F))).Forall fun op => op.bufs ⊆ tcRefs τ sig :=
  ⟨unary_bufs_sub .., nullary_bufs_sub .., nullary_bufs_sub .., binaryIndexed_bufs_sub ..⟩
/-- The lines that carry the loop's values touch known buffers only. -/
theorem backOps_sub : (backOps : List (HloOp τ sig (Elt F))).Forall fun op => op.bufs ⊆ tcRefs τ sig :=
  ⟨nullary_bufs_sub .., binary_bufs_sub .., unary_bufs_sub .., unary_bufs_sub .., unary_bufs_sub ..⟩

/-- The lines before the loop draw no new buffer. -/
theorem entryOps_fresh : (entryOps : List (HloOp τ sig (Elt F))).Forall fun op => op.fresh = ∅ := forall_fresh_of_map rfl
/-- The lines that pick a stage's codebook draw no new buffer. -/
theorem bookOps_fresh : (bookOps : List (HloOp τ sig (Elt F))).Forall fun op => op.fresh = ∅ := forall_fresh_of_map rfl
/-- The lines of the distances draw no new buffer. -/
theorem distOps_fresh : (distOps : List (HloOp τ sig (Elt F))).Forall fun op => op.fresh = ∅ := forall_fresh_of_map rfl
/-- The lines of the choice draw no new buffer. -/
theorem pickOps_fresh : (pickOps : List (HloOp τ sig (Elt F))).Forall fun op => op.fresh = ∅ := forall_fresh_of_map rfl
/-- The lines that take the chosen entry draw no new buffer. -/
theorem takeOps_fresh : (takeOps : List (HloOp τ sig (Elt F))).Forall fun op => op.fresh = ∅ := forall_fresh_of_map rfl
/-- The line of the new residual draw no new buffer. -/
theorem leftOps_fresh : (leftOps : List (HloOp τ sig (Elt F))).Forall fun op => op.fresh = ∅ := forall_fresh_of_map rfl
/-- The lines that store the codes draw no new buffer. -/
theorem putOps_fresh : (putOps : List (HloOp τ sig (Elt F))).Forall fun op => op.fresh = ∅ := forall_fresh_of_map rfl
/-- The lines that carry the loop's values draw no new buffer. -/
theorem backOps_fresh : (backOps : List (HloOp τ sig (Elt F))).Forall fun op => op.fresh = ∅ := forall_fresh_of_map rfl

/-- The buffers each stretch writes, in order. -/
abbrev entryW : List (Ref sig .tc) := [main_c, main_v0, main_c_0, main_v1_0, main_v1_1, main_v1_2, main_v1_3]
@[inherit_doc entryW] abbrev bookW : List (Ref sig .tc) := [main_while0b_call0_c, main_while0b_call0_c_0, main_while0b_call0_v0, main_while0b_v2]
@[inherit_doc entryW] abbrev distW : List (Ref sig .tc) := [main_while0b_v3, main_while0b_cst, main_while0b_v4, main_while0b_v5, main_while0b_v6,
  main_while0b_v7, main_while0b_v8, main_while0b_cst_4, main_while0b_v9, main_while0b_v10, main_while0b_cst_5, main_while0b_v11, main_while0b_v12,
  main_while0b_v13, main_while0b_v14, main_while0b_v15, main_while0b_v16, main_while0b_v17]
@[inherit_doc entryW] abbrev pickW : List (Ref sig .tc) := [main_while0b_call1_v0, main_while0b_call1_cst, main_while0b_call1_c, main_while0b_call1_v1_0, main_while0b_v18]
@[inherit_doc entryW] abbrev takeW : List (Ref sig .tc) := [main_while0b_call2_c, main_while0b_call2_v0, main_while0b_call2_v1, main_while0b_call2_c_0,
  main_while0b_call2_v2, main_while0b_call2_v3, main_while0b_call2_v4, main_while0b_call2_v5, main_while0b_call2_c_1, main_while0b_call2_c_2,
  main_while0b_call2_v6, main_while0b_call2_v7, main_while0b_call2_v8, main_while0b_call2_v9, main_while0b_call2_v10, main_while0b_call2_v11,
  main_while0b_call2_c_3, main_while0b_call2_v12, main_while0b_call2_v13, main_while0b_call2_v14, main_while0b_call2_cst, main_while0b_call2_v15, main_while0b_v19]
@[inherit_doc entryW] abbrev leftW : List (Ref sig .tc) := [main_while0b_v20]
@[inherit_doc entryW] abbrev putW : List (Ref sig .tc) := [main_while0b_call3_v0, main_while0b_call3_c, main_while0b_call3_c_0, main_while0b_v21]
@[inherit_doc entryW] abbrev backW : List (Ref sig .tc) := [main_while0b_c_6, main_while0b_v22, main_v1_1, main_v1_2, main_v1_3]
@[inherit_doc entryW] abbrev condW : List (Ref sig .tc) := [main_while0c_c_4, main_while0c_v2]

/-- The lines before the loop write their listed results only. -/
theorem entryOps_writes : (entryOps : List (HloOp τ sig (Elt F))).Forall fun op => op.writes ⊆ (entryW.map (Proc.devRef (τ := τ) .tc)).toFinset := forall_writes_sub_of_map rfl
/-- The lines that pick a stage's codebook write their listed results only. -/
theorem bookOps_writes : (bookOps : List (HloOp τ sig (Elt F))).Forall fun op => op.writes ⊆ (bookW.map (Proc.devRef (τ := τ) .tc)).toFinset := forall_writes_sub_of_map rfl
/-- The lines of the distances write their listed results only. -/
theorem distOps_writes : (distOps : List (HloOp τ sig (Elt F))).Forall fun op => op.writes ⊆ (distW.map (Proc.devRef (τ := τ) .tc)).toFinset := forall_writes_sub_of_map rfl
/-- The lines of the choice write their listed results only. -/
theorem pickOps_writes : (pickOps : List (HloOp τ sig (Elt F))).Forall fun op => op.writes ⊆ (pickW.map (Proc.devRef (τ := τ) .tc)).toFinset := forall_writes_sub_of_map rfl
/-- The lines that take the chosen entry write their listed results only. -/
theorem takeOps_writes : (takeOps : List (HloOp τ sig (Elt F))).Forall fun op => op.writes ⊆ (takeW.map (Proc.devRef (τ := τ) .tc)).toFinset := forall_writes_sub_of_map rfl
/-- The line of the new residual write their listed results only. -/
theorem leftOps_writes : (leftOps : List (HloOp τ sig (Elt F))).Forall fun op => op.writes ⊆ (leftW.map (Proc.devRef (τ := τ) .tc)).toFinset := forall_writes_sub_of_map rfl
/-- The lines that store the codes write their listed results only. -/
theorem putOps_writes : (putOps : List (HloOp τ sig (Elt F))).Forall fun op => op.writes ⊆ (putW.map (Proc.devRef (τ := τ) .tc)).toFinset := forall_writes_sub_of_map rfl
/-- The lines that carry the loop's values write their listed results only. -/
theorem backOps_writes : (backOps : List (HloOp τ sig (Elt F))).Forall fun op => op.writes ⊆ (backW.map (Proc.devRef (τ := τ) .tc)).toFinset := forall_writes_sub_of_map rfl
/-- The lines of the loop's test write their listed results only. -/
theorem condOps_writes : (condOps : List (HloOp τ sig (Elt F))).Forall fun op => op.writes ⊆ (condW.map (Proc.devRef (τ := τ) .tc)).toFinset := forall_writes_sub_of_map rfl

/-- The stretches are plain host operations. -/
theorem hpre : Plain (preI (F := F)) := .cons entryOps_sub (hf := List.forall_iff_forall_mem.mp entryOps_fresh) .nil
@[inherit_doc hpre] theorem hbodyI : Plain (bodyI (F := F)) :=
  .cons bookOps_sub (hf := List.forall_iff_forall_mem.mp bookOps_fresh) (.cons distOps_sub (hf := List.forall_iff_forall_mem.mp distOps_fresh)
    (.cons pickOps_sub (hf := List.forall_iff_forall_mem.mp pickOps_fresh) (.cons takeOps_sub (hf := List.forall_iff_forall_mem.mp takeOps_fresh)
      (.cons leftOps_sub (hf := List.forall_iff_forall_mem.mp leftOps_fresh) (.cons putOps_sub (hf := List.forall_iff_forall_mem.mp putOps_fresh)
        (.cons backOps_sub (hf := List.forall_iff_forall_mem.mp backOps_fresh) .nil))))))
@[inherit_doc hpre] theorem hpost : Plain (postI (F := F)) := .nil

end Cert.ReferenceIdeal.Steps

end
-- ==== Proof.RefRun.lean ====
module

public import proofs.«01_k».proof.Proof.RefOps
public import Idealize.ShloMosaic.Lib.Scf.ExitTest
public import Idealize.ShloMosaic.Lib.Scf.Counter

/-! # The reference's run

The loop's counter starts at zero and every trip adds one, so the loop ends after eight trips; the whole run then ends with
every buffer at the fold of the operations, and, the reference having no semaphore at all, every counter at zero. -/

@[expose] public section

noncomputable section

namespace Cert.ReferenceIdeal.Steps

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-- The program names no semaphore. -/
theorem no_semaphore : SemLoc sig → False := fun
  | .reg s => (show Fin 0 from s).elim0
  | .dma s => (show Fin 0 from s).elim0

/-- Every buffer's contents before the `k`-th run of the condition, counted from 0. -/
abbrev atK (k : ℕ) (c : Dev nD) : Valuation τ sig (Elt F) := atTrip condOps bodyI (entryContents preI m) k c

/-- Before its last stretch a trip leaves a carried buffer as it was. -/
theorem carried (V : Valuation τ sig (Elt F)) (b : Ref sig .tc)
    (hb : b = main_v1_0 ∨ b = main_v1_1 ∨ b = main_v1_2 ∨ b = main_v1_3) :
    after condOps V (Proc.devRef .tc b) = V (Proc.devRef .tc b)
    ∧ after bookOps V (Proc.devRef .tc b) = V (Proc.devRef .tc b)
    ∧ after distOps V (Proc.devRef .tc b) = V (Proc.devRef .tc b)
    ∧ after pickOps V (Proc.devRef .tc b) = V (Proc.devRef .tc b)
    ∧ after takeOps V (Proc.devRef .tc b) = V (Proc.devRef .tc b)
    ∧ after leftOps V (Proc.devRef .tc b) = V (Proc.devRef .tc b)
    ∧ after putOps V (Proc.devRef .tc b) = V (Proc.devRef .tc b) := by
  rcases hb with rfl | rfl | rfl | rfl <;>
  exact ⟨after_of_writes_sub condOps V condOps_writes (by decide +kernel), after_of_writes_sub bookOps V bookOps_writes (by decide +kernel),
    after_of_writes_sub distOps V distOps_writes (by decide +kernel), after_of_writes_sub pickOps V pickOps_writes (by decide +kernel),
    after_of_writes_sub takeOps V takeOps_writes (by decide +kernel), after_of_writes_sub leftOps V leftOps_writes (by decide +kernel),
    after_of_writes_sub putOps V putOps_writes (by decide +kernel)⟩

set_option maxRecDepth 100000 in
/-- The last stretch adds one to the counter. -/
theorem counter_step (X : Valuation τ sig (Elt F)) :
    after backOps X (Proc.devRef .tc main_v1_1) = addi (X (Proc.devRef .tc main_v1_1)) (constantI S_ 32 1#32) := by
  after_results
  rfl

/-- The counter is zero at the loop's entry. -/
theorem counter_entry (c : Dev nD) : entryContents preI m c (Proc.devRef .tc main_v1_1) = fun _ => (0#32 : BitVec 32) := by
  simp only [entryContents, afterL_cons, afterL_nil]
  after_reads_simp
  rfl

/-- Before the `k`-th run of the condition the counter is `k`. -/
theorem counter_at (c : Dev nD) : ∀ k, atK m k c (Proc.devRef .tc main_v1_1) = fun _ => Scf.iv 0#32 1#32 k
  | 0 => by rw [show atK m 0 c = entryContents preI m c from rfl, counter_entry, Scf.iv_zero]
  | k + 1 => by
    have h (V : Valuation τ sig (Elt F)) := carried V main_v1_1 (.inr (.inl rfl))
    rw [show atK m (k + 1) c = afterL bodyI (after condOps (atK m k c)) from rfl]
    simp only [afterL_cons, afterL_nil]
    rw [counter_step, (h _).2.2.2.2.2.2, (h _).2.2.2.2.2.1, (h _).2.2.2.2.1, (h _).2.2.2.1, (h _).2.2.1, (h _).2.1, (h _).1,
      counter_at c k, Scf.iv_succ]
    rfl

-- `iapply` of a rule stated for any thread at the core's own thread unifies only when unification may unfold
-- plain definitions in a metavariable's type
set_option backward.isDefEq.respectTransparency.types false in
/-- The condition answers yes exactly below eight. -/
theorem cond_spec : CondSpec (pcfgs (F := F)) defs₀ loops (main_while0_cond (F := F)) condOps bodyI (entryContents preI m) 8 := by
  intro k hk c bd
  have hctr := counter_at m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v1_1 HostLoop.idx0)
        (HloOp.result _ (atK m k c) main_while0c_c_4 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- The run: every buffer ends at the fold of the operations. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop (pcfgs (F := F)) defs₀ loops main 0 main_while0_cond main_while0_body rfl preI bodyI postI condOps hpre hbodyI hpost
    (fun c => by rw [main_chain]; rfl) (by rw [body_chain]; rfl) 8 m ρ (cond_spec m)

/-- After the eighth test every buffer is as before it, the condition's two apart. -/
theorem final_eq (c : Dev nD) : finalContents condOps preI bodyI postI 8 m c = after condOps (atK m 8 c) := rfl

/-- No stretch writes an argument. -/
theorem kept (V : Valuation τ sig (Elt F)) (b : Ref sig .tc) (hb : b = main_arg0 ∨ b = main_arg1) :
    after condOps V (Proc.devRef .tc b) = V (Proc.devRef .tc b)
    ∧ afterL bodyI V (Proc.devRef .tc b) = V (Proc.devRef .tc b)
    ∧ after entryOps V (Proc.devRef .tc b) = V (Proc.devRef .tc b) := by
  simp only [afterL_cons, afterL_nil]
  rcases hb with rfl | rfl
  all_goals
    refine ⟨after_of_writes_sub condOps V condOps_writes (by decide +kernel), ?_, after_of_writes_sub entryOps V entryOps_writes (by decide +kernel)⟩
    rw [after_of_writes_sub backOps _ backOps_writes (by decide +kernel), after_of_writes_sub putOps _ putOps_writes (by decide +kernel),
      after_of_writes_sub leftOps _ leftOps_writes (by decide +kernel), after_of_writes_sub takeOps _ takeOps_writes (by decide +kernel),
      after_of_writes_sub pickOps _ pickOps_writes (by decide +kernel), after_of_writes_sub distOps _ distOps_writes (by decide +kernel),
      after_of_writes_sub bookOps _ bookOps_writes (by decide +kernel)]

/-- Before every run of the condition an argument is as launched. -/
theorem kept_at (c : Dev nD) (b : Ref sig .tc) (hb : b = main_arg0 ∨ b = main_arg1) :
    ∀ k, atK m k c (Proc.devRef .tc b) = m ((c : Thread nD τ).loc b)
  | 0 => (kept (launchContents m c) b hb).2.2
  | k + 1 => by
    rw [show atK m (k + 1) c = afterL bodyI (after condOps (atK m k c)) from rfl, (kept _ b hb).2.1, (kept _ b hb).1, kept_at c b hb k]

/-- The arguments are as launched and every counter is at zero. -/
def Quiet (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0

/-- Every execution ends, the codes at the fold of the operations, the arguments as launched and every counter at zero. -/
theorem run : θ_run (defs (F := F)) (onTc (τ := τ) (main (F := F))) ⟨m, fun _ => 0, ρ⟩
    (fun r => (∀ c : Dev nD, r.2.mem ((c : Thread nD τ).loc main_v1_3) = atK m 8 c (Proc.devRef .tc main_v1_3)) ∧ Quiet m r) :=
  (θ_run _ _ _).mono (fun r h => ⟨fun c => (h c main_v1_3 rfl).trans ((congrFun (final_eq m c) _).trans (carried _ main_v1_3 (.inr (.inr (.inr rfl)))).1),
    fun c => ⟨(h c main_arg0 rfl).trans ((congrFun (final_eq m c) _).trans ((kept _ main_arg0 (.inl rfl)).1.trans (kept_at m c main_arg0 (.inl rfl) 8))),
      (h c main_arg1 rfl).trans ((congrFun (final_eq m c) _).trans ((kept _ main_arg1 (.inr rfl)).1.trans (kept_at m c main_arg1 (.inr rfl) 8)))⟩,
    funext fun g => (no_semaphore g.2).elim⟩) (run_fold m ρ)

end Cert.ReferenceIdeal.Steps

end
-- ==== Proof.RefValue.lean ====
/-
  What the reference's loop computes: its carried residual before each trip is what the stages leave, and its codes are the
  stages' indices.
-/
module

public import proofs.«01_k».proof.Proof.RefRun
public import proofs.«01_k».proof.Proof.Given
public import Idealize.ShloMosaic.Lib.StableHlo.ReadAt
public import Idealize.ShloMosaic.Lib.DynamicIndex

@[expose] public section

noncomputable section

namespace Cert.ReferenceIdeal.Steps

open Cert.ReferenceIdeal Cert.ReferenceIdeal.Gen
open Idealize.ShloMosaic Idealize.ShloMosaic.TcCoe
open Idealize.ShloMosaic.StableHlo

/-- The contents of every buffer. -/
abbrev Vals := Valuation τ sig (Elt Ideal)

/-- The second stretch computes the negated squared distances. -/
theorem dist_value (X : Vals) : after (distOps (F := Ideal)) X (Proc.devRef .tc main_while0b_v17) =
    Stage.dists (X (Proc.devRef .tc main_v1_2)) (X (Proc.devRef .tc main_while0b_v2)) := by
  after_results
  rfl

/-- The third takes the index of the largest. -/
theorem pick_value (X : Vals) : after (pickOps (F := Ideal)) X (Proc.devRef .tc main_while0b_v18) =
    Cert.Pre_one_nearest.fn_argmax (F := Ideal) (X (Proc.devRef .tc main_while0b_v17)) := by
  after_results
  rfl

set_option maxRecDepth 100000 in
/-- The fourth looks the entries up. -/
theorem take_value (X : Vals) : after (takeOps (F := Ideal)) X (Proc.devRef .tc main_while0b_v19) =
    Cert.Pre_one_nearest.fn_take (F := Ideal) (X (Proc.devRef .tc main_while0b_v2)) (X (Proc.devRef .tc main_while0b_v18)) := by
  after_results
  rfl

/-- The fifth subtracts the entry from the residual. -/
theorem left_value (X : Vals) : after (leftOps (F := Ideal)) X (Proc.devRef .tc main_while0b_v20) =
    subf (F := Ideal) (φ := .f32) (X (Proc.devRef .tc main_v1_2)) (X (Proc.devRef .tc main_while0b_v19)) := by
  after_results

/-- A codebook sliced out at a word that holds its number. -/
theorem slice_book (cb : Stage.Books) (st : Fin 3 → ℤ) (k : Fin 8) (h0 : st 0 = (k.val : ℤ)) (h1 : st 1 = 0) (h2 : st 2 = 0) :
    shapeCast S1024x128 (Host.dynamicSlice S1x1024x128 cb st sliceFits_S8x1024x128_S1x1024x128) shapeCasts_S1x1024x128_S1024x128
      = Stage.book cb k := by
  have fits : S8x1024x128.Slices ![k.val, 0, 0] S1x1024x128 :=
    (show ∀ k : Fin 8, S8x1024x128.Slices ![k.val, 0, 0] S1x1024x128 from by decide) k
  rw [Host.dynamicSlice_eq_extractStridedSlice S1x1024x128 cb st ![k.val, 0, 0] _ fits]
  · exact Stage.book_of cb k k.val rfl fits
  · intro a
    match a with
    | ⟨0, _⟩ => exact h0
    | ⟨1, _⟩ => exact h1
    | ⟨2, _⟩ => exact h2

/-- A small number read off a word. -/
theorem word_int (k : Fin 8) : (BitVec.ofNat 32 k.val).toInt = (k.val : ℤ) := by revert k; decide

/-- The first stretch cuts out the codebook of the trip. -/
theorem book_value (X : Vals) (k : Fin 8) (h : X (Proc.devRef .tc main_v1_1) = fun _ => BitVec.ofNat 32 k.val) :
   after (bookOps (F := Ideal)) X (Proc.devRef .tc main_while0b_v2) = Stage.book (X (Proc.devRef .tc main_v1_0)) k := by
  after_results
  refine slice_book (X (Proc.devRef .tc main_v1_0)) _ k ?_ rfl rfl
  exact (congrArg BitVec.toInt (congrFun h (Shape.Idx.first h_S_))).trans (word_int k)

/-- A block of one row put at a word that holds the row's number, read at an index. -/
theorem put_row (x : S8x16x1500.Idx → BitVec 32) (u : S1x16x1500.Idx → BitVec 32) (st : Fin 3 → ℤ) (k : Fin 8) (h0 : st 0 = (k.val : ℤ))
    (h1 : st 1 = 0) (h2 : st 2 = 0) (s : Fin 8) (b : Fin 16) (t : Fin 1500) :
    Host.dynamicUpdateSlice x u st updateFits_S8x16x1500_S1x16x1500 (ix3 s b t) = if s = k then u (ix3 (0 : Fin 1) b t) else x (ix3 s b t) := by
  have fits : S8x16x1500.Slices ![k.val, 0, 0] S1x16x1500 :=
    (show ∀ k : Fin 8, S8x16x1500.Slices ![k.val, 0, 0] S1x16x1500 from by decide) k
  rw [Host.dynamicUpdateSlice_eq_updateSlice x u st _ ![k.val, 0, 0] ?_ fits]
  · unfold updateSlice
    by_cases e : s = k
    · subst e
      rw [if_pos rfl, dif_pos ?_]
      · congr 1
        funext a
        match a with
        | ⟨0, _⟩ => exact Fin.ext (Nat.sub_self _)
        | ⟨1, _⟩ => exact Fin.ext (Nat.sub_zero _)
        | ⟨2, _⟩ => exact Fin.ext (Nat.sub_zero _)
      · intro a
        match a with
        | ⟨0, _⟩ => exact ⟨le_refl s.val, Nat.lt_succ_self s.val⟩
        | ⟨1, _⟩ => exact ⟨Nat.zero_le _, by have := b.isLt; show b.val < 0 + 16; omega⟩
        | ⟨2, _⟩ => exact ⟨Nat.zero_le _, by have := t.isLt; show t.val < 0 + 1500; omega⟩
    · rw [if_neg e, dif_neg]
      intro hin
      have h := hin ⟨0, by decide⟩
      have h' : k.val ≤ s.val ∧ s.val < k.val + 1 := h
      exact e (Fin.ext (by omega))
  · intro a
    have hk := k.isLt
    match a with
    | ⟨0, _⟩ => show (min (max (st 0) 0) ((8 - 1 : ℕ) : ℤ)).toNat = k.val; rw [h0]; omega
    | ⟨1, _⟩ => show (min (max (st 1) 0) ((16 - 16 : ℕ) : ℤ)).toNat = 0; rw [h1]; omega
    | ⟨2, _⟩ => show (min (max (st 2) 0) ((1500 - 1500 : ℕ) : ℤ)).toNat = 0; rw [h2]; omega

/-- The sixth puts the indices in their row of the codes. -/
theorem put_value (X : Vals) (k : Fin 8) (h : X (Proc.devRef .tc main_v1_1) = fun _ => BitVec.ofNat 32 k.val) (s : Fin 8) (b : Fin 16) (t : Fin 1500) :
   after (putOps (F := Ideal)) X (Proc.devRef .tc main_while0b_v21) (ix3 s b t) = if s = k then X (Proc.devRef .tc main_while0b_v18) (ix2 b t) else X (Proc.devRef .tc main_v1_3) (ix3 s b t) := by
  after_results
  refine (put_row (X (Proc.devRef .tc main_v1_3)) _ _ k ?_ rfl rfl s b t).trans ?_
  · exact (congrArg BitVec.toInt (congrFun h (Shape.Idx.first h_S_))).trans (word_int k)
  · have hu : broadcastInDim S1x16x1500 ![1, 2] bcast_S16x1500_S1x16x1500_1_2 (X (Proc.devRef .tc main_while0b_v18)) (ix3 (0 : Fin 1) b t)
        = X (Proc.devRef .tc main_while0b_v18) (ix2 b t) := by pointwise
    exact congrArg (fun z => if s = k then z else X (Proc.devRef .tc main_v1_3) (ix3 s b t)) hu

/-- The last stretch carries the residual on, -/
theorem back_rest (X : Vals) : after (backOps (F := Ideal)) X (Proc.devRef .tc main_v1_2) = X (Proc.devRef .tc main_while0b_v20) := by
  after_results
  rfl

/-- and the codes, -/
theorem back_codes (X : Vals) : after (backOps (F := Ideal)) X (Proc.devRef .tc main_v1_3) = X (Proc.devRef .tc main_while0b_v21) := by
  after_results
  rfl

/-- and leaves the codebooks. -/
theorem back_books (X : Vals) : after (backOps (F := Ideal)) X (Proc.devRef .tc main_v1_0) = X (Proc.devRef .tc main_v1_0) :=
  after_of_writes_sub backOps X backOps_writes (by decide +kernel)

/-- The values of a trip's later stretches are not written over in between. -/
theorem held (V : Vals) :
    after pickOps (after distOps V) (Proc.devRef .tc main_while0b_v2) = V (Proc.devRef .tc main_while0b_v2)
    ∧ after distOps V (Proc.devRef .tc main_while0b_v2) = V (Proc.devRef .tc main_while0b_v2)
    ∧ after leftOps (after takeOps V) (Proc.devRef .tc main_while0b_v18) = V (Proc.devRef .tc main_while0b_v18)
    ∧ after putOps V (Proc.devRef .tc main_while0b_v20) = V (Proc.devRef .tc main_while0b_v20) := by
  have hd : after distOps V (Proc.devRef .tc main_while0b_v2) = V (Proc.devRef .tc main_while0b_v2) :=
    after_of_writes_sub distOps V distOps_writes (by decide +kernel)
  refine ⟨(after_of_writes_sub pickOps _ pickOps_writes (by decide +kernel)).trans hd, hd,
    (after_of_writes_sub leftOps _ leftOps_writes (by decide +kernel)).trans (after_of_writes_sub takeOps V takeOps_writes (by decide +kernel)),
    after_of_writes_sub putOps V putOps_writes (by decide +kernel)⟩

variable (V : Vals) (k : Fin 8) (h : V (Proc.devRef .tc main_v1_1) = fun _ => BitVec.ofNat 32 k.val)
include h

/-- The indices a trip chooses. -/
theorem trip_pick : after pickOps (after distOps (after bookOps V)) (Proc.devRef .tc main_while0b_v18)
    = Stage.ind (V (Proc.devRef .tc main_v1_2)) (Stage.book (V (Proc.devRef .tc main_v1_0)) k) := by
  rw [pick_value, dist_value, book_value V k h, (carried V main_v1_2 (.inr (.inr (.inl rfl)))).2.1]
  rfl

/-- A trip leaves of the residual what its stage leaves. -/
theorem trip_rest : afterL bodyI V (Proc.devRef .tc main_v1_2)
    = Stage.left (V (Proc.devRef .tc main_v1_2)) (Stage.book (V (Proc.devRef .tc main_v1_0)) k) := by
  have hc (W : Vals) := carried W main_v1_2 (.inr (.inr (.inl rfl)))
  simp only [afterL_cons, afterL_nil]
  rw [back_rest, (held _).2.2.2, left_value, take_value, trip_pick V k h, (held _).1, book_value V k h, (hc _).2.2.2.2.1,
    (hc _).2.2.2.1, (hc _).2.2.1, (hc _).2.1]
  rfl

/-- A trip puts its indices in its row of the codes. -/
theorem trip_codes (s : Fin 8) (b : Fin 16) (t : Fin 1500) : afterL bodyI V (Proc.devRef .tc main_v1_3) (ix3 s b t)
    = if s = k then Stage.ind (V (Proc.devRef .tc main_v1_2)) (Stage.book (V (Proc.devRef .tc main_v1_0)) k) (ix2 b t)
      else V (Proc.devRef .tc main_v1_3) (ix3 s b t) := by
  have hn (W : Vals) := carried W main_v1_1 (.inr (.inl rfl))
  have hc (W : Vals) := carried W main_v1_3 (.inr (.inr (.inr rfl)))
  simp only [afterL_cons, afterL_nil]
  rw [back_codes, put_value _ k ((hn _).2.2.2.2.2.1.trans ((hn _).2.2.2.2.1.trans ((hn _).2.2.2.1.trans ((hn _).2.2.1.trans ((hn _).2.1.trans h))))),
    (held _).2.2.1, trip_pick V k h, (hc _).2.2.2.2.2.1, (hc _).2.2.2.2.1, (hc _).2.2.2.1, (hc _).2.2.1, (hc _).2.1]

omit h in
/-- A trip leaves the codebooks. -/
theorem trip_books : afterL bodyI V (Proc.devRef .tc main_v1_0) = V (Proc.devRef .tc main_v1_0) := by
  have hc (W : Vals) := carried W main_v1_0 (.inl rfl)
  simp only [afterL_cons, afterL_nil]
  rw [back_books, (hc _).2.2.2.2.2.2, (hc _).2.2.2.2.2.1, (hc _).2.2.2.2.1, (hc _).2.2.2.1, (hc _).2.2.1, (hc _).2.1]

omit V k h

variable (m : (ℓ : Loc nD τ sig) → Buf (Elt Ideal) ℓ) (c : Dev nD)

/-- The codebooks and the residual at the loop's entry. -/
theorem entry_books : atK m 0 c (Proc.devRef .tc main_v1_0) = m ((c : Thread nD τ).loc main_arg1) := by
  rw [show atK m 0 c = entryContents preI m c from rfl]
  simp only [entryContents, afterL_cons, afterL_nil]
  after_reads_simp
  rfl

/-- Before the loop the residual is the tokens. -/
theorem entry_rest : atK m 0 c (Proc.devRef .tc main_v1_2) = m ((c : Thread nD τ).loc main_arg0) := by
  rw [show atK m 0 c = entryContents preI m c from rfl]
  simp only [entryContents, afterL_cons, afterL_nil]
  after_reads_simp
  rfl

/-- **The loop's state before each trip.** -/
theorem state_at (k : ℕ) (hk : k ≤ 8) :
    atK m k c (Proc.devRef .tc main_v1_0) = m ((c : Thread nD τ).loc main_arg1)
    ∧ atK m k c (Proc.devRef .tc main_v1_2) = Stage.rest (m ((c : Thread nD τ).loc main_arg0)) (m ((c : Thread nD τ).loc main_arg1)) k
    ∧ ∀ (s : Fin 8) (b : Fin 16) (t : Fin 1500), s.val < k → atK m k c (Proc.devRef .tc main_v1_3) (ix3 s b t)
      = Stage.codes (m ((c : Thread nD τ).loc main_arg0)) (m ((c : Thread nD τ).loc main_arg1)) s.val (ix2 b t) := by
  induction k with
  | zero => exact ⟨entry_books m c, entry_rest m c, fun s b t hs => absurd hs (Nat.not_lt_zero _)⟩
  | succ k ih =>
    obtain ⟨h0, h2, h3⟩ := ih (by omega)
    have hstep : atK m (k + 1) c = afterL bodyI (after condOps (atK m k c)) := rfl
    have hs : Fin.ofNat 8 k = (⟨k, by omega⟩ : Fin 8) := Fin.ext (Nat.mod_eq_of_lt (by omega))
    have e0 := (carried (atK m k c) main_v1_0 (.inl rfl)).1.trans h0
    have e2 := (carried (atK m k c) main_v1_2 (.inr (.inr (.inl rfl)))).1.trans h2
    have e1 : after condOps (atK m k c) (Proc.devRef .tc main_v1_1) = fun _ => BitVec.ofNat 32 (⟨k, by omega⟩ : Fin 8).val :=
      (carried (atK m k c) main_v1_1 (.inr (.inl rfl))).1.trans ((counter_at m c k).trans (funext fun _ => by simp [Scf.iv]))
    refine ⟨?_, ?_, fun s b t hlt => ?_⟩
    · rw [hstep, trip_books, e0]
    · rw [hstep, trip_rest _ _ e1, e0, e2, Stage.rest, hs]
    · rw [hstep, trip_codes _ _ e1, e0, e2]
      by_cases e : s = ⟨k, by omega⟩
      · rw [if_pos e, show s.val = k from congrArg Fin.val e, Stage.codes, hs]
      · have hne : s.val ≠ k := fun q => e (Fin.ext q)
        rw [if_neg e, (carried (atK m k c) main_v1_3 (.inr (.inr (.inr rfl)))).1, h3 s b t (by omega)]

/-- **The reference's codes** are the stages' indices. -/
theorem result_at (s : Fin 8) (b : Fin 16) (t : Fin 1500) : atK m 8 c (Proc.devRef .tc main_v1_3) (ix3 s b t)
      = Stage.codes (m ((c : Thread nD τ).loc main_arg0)) (m ((c : Thread nD τ).loc main_arg1)) s.val (ix2 b t) :=
  (state_at m c 8 (le_refl 8)).2.2 s b t s.isLt

end Cert.ReferenceIdeal.Steps
-- ==== Proof.lean ====
/-
  Every claim, put together. The three programs run and end quiet; the kernel's codes and the reference's are the same
  named codes of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_nearest
public import proofs.«01_k».proof.Proof.FrameKernel
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The precondition on the kernel's memory gives the facts about each device's arguments. -/
theorem given (m : (ℓ : Loc Cert.KernelIdeal.nD Cert.KernelIdeal.τ Cert.KernelIdeal.sig) → Buf (Elt Ideal) ℓ)
    (h : Cert.Pre_KernelIdeal_one_nearest m) (c : Dev Cert.KernelIdeal.nD) :
    Stage.Given (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  obtain ⟨h1, f0, f1, f2, f3, f4, f5, f6, f7⟩ := h c
  exact Stage.given_of _ _ h1 f0 f1 f2 f3 f4 f5 f6 f7

/-- On arguments the precondition admits, the reference's result is the kernel's. -/
theorem alike (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (g : Stage.Given (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (s : Fin 8) (b : Fin 16) (t : Fin 1500) :
    Cert.ReferenceIdeal.Steps.atK m' 8 c (Proc.devRef .tc Cert.ReferenceIdeal.main_v1_3) (ix3 s b t)
      = Cert.KernelIdeal.FrameRun.ended m c Cert.KernelIdeal.main_v42 (ix3 s b t) := by
  refine (Cert.ReferenceIdeal.Steps.result_at m' c s b t).trans ?_
  rw [h0, h1]
  exact (Cert.KernelIdeal.FrameRun.result_at m c g s b t).symm

/-- The kernel over the extended reals ends quiet. -/
theorem quiet_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) ∧ r.2.sem = fun _ => 0) :=
  (θ_run _ _ _).mono (fun _ h => ⟨fun c => (h.1 c).2, h.2⟩) (Cert.KernelIdeal.FrameRun.run m g)

/-- From equal arguments the precondition admits, both programs end with the same codes. -/
theorem algebraic : Cert.algebraic_KernelIdeal_ReferenceIdeal_pre_one_nearest (hKernelIdeal := Cert.KernelIdeal.Gen.facts)
    (hReferenceIdeal := Cert.ReferenceIdeal.Gen.facts) (hPre_one_nearest := Cert.Pre_one_nearest.Gen.facts) := by
  intro m g m' g' hp hm
  refine ⟨fun c => Cert.KernelIdeal.FrameRun.ended m c Cert.KernelIdeal.main_v42, ?_, ?_⟩
  · exact (θ_run _ _ _).mono (fun _ h => h.1) (Cert.KernelIdeal.FrameRun.run m g)
  · refine (θ_run _ _ _).mono (fun _ h c => ⟨(h.1 c).trans (funext fun j => ?_), h.2.1 c⟩) (Cert.ReferenceIdeal.Steps.run m' g')
    rw [eq_ix3 j]
    exact alike m m' c (given m hp c) (hm c).1 (hm c).2 (j 0) (j 1) (j 2)

/-- Every claim holds. -/
theorem claim : Cert.Claim := ⟨Cert.Kernel.Gen.facts, Cert.KernelIdeal.Gen.facts, Cert.ReferenceIdeal.Gen.facts, Cert.Pre_one_nearest.Gen.facts,
  fun m g _ => Cert.Kernel.FrameRun.run m g, fun m g _ => quiet_kernel m g, fun m g _ => quiet_kernel m g,
  fun m g _ => (θ_run _ _ _).mono (fun _ h => h.2) (Cert.ReferenceIdeal.Steps.run m g),
  fun m g _ => (θ_run _ _ _).mono (fun _ h => h.2) (Cert.ReferenceIdeal.Steps.run m g), trivial, algebraic⟩

end Cert.Proof

end
